-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v48)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v48) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v209) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x64 : Shape := ⟨2, ![4, 64]⟩
abbrev S4x8192x2304 : Shape := ⟨3, ![4, 8192, 2304]⟩
abbrev S4x256x2304 : Shape := ⟨3, ![4, 256, 2304]⟩
abbrev S_ : Shape := ⟨0, ![]⟩

class Facts : Prop where
  bcast_S_S4x64 : S_.BroadcastsInDim S4x64 (![] : Fin 0 → Fin S4x64.rank)
  bcast_S_S4x8192x2304 : S_.BroadcastsInDim S4x8192x2304 (![] : Fin 0 → Fin S4x8192x2304.rank)
  bcast_S_S4x256x2304 : S_.BroadcastsInDim S4x256x2304 (![] : Fin 0 → Fin S4x256x2304.rank)

variable [Facts]

def fn {F : FTy → Type} [FloatOps F] (main_arg0 : FVec F S4x64 .f32) (main_arg1 : FVec F S4x8192x2304 .f32) (main_arg2 : FVec F S4x256x2304 .f32) : IVec S4x64 1 × IVec S4x8192x2304 1 × IVec S4x256x2304 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S4x8192x2304 .f32 := Host.absf main_arg1
  let main_cst_0 : FVec F S_ .f32 := constant S_ .f32 0x7F800000#32
  let main_v4 : FVec F S4x8192x2304 .f32 := broadcastInDim S4x8192x2304 ![] bcast_S_S4x8192x2304 main_cst_0
  let main_v5 : IVec S4x8192x2304 1 := cmpf .olt main_v3 main_v4
  let main_v6 : FVec F S4x256x2304 .f32 := Host.absf main_arg2
  let main_cst_1 : FVec F S_ .f32 := constant S_ .f32 0x7F800000#32
  let main_v7 : FVec F S4x256x2304 .f32 := broadcastInDim S4x256x2304 ![] bcast_S_S4x256x2304 main_cst_1
  let main_v8 : IVec S4x256x2304 1 := cmpf .olt main_v6 main_v7
  (main_v2, main_v5, main_v8)
-- ==== Kernel.lean ====
abbrev S4x64 : Shape := ⟨2, ![4, 64]⟩
abbrev S4x8192x2304 : Shape := ⟨3, ![4, 8192, 2304]⟩
abbrev S4x256x2304 : Shape := ⟨3, ![4, 256, 2304]⟩
abbrev S4x8192x512 : Shape := ⟨3, ![4, 8192, 512]⟩
abbrev S1x512x128 : Shape := ⟨3, ![1, 512, 128]⟩
abbrev S1x256x128 : Shape := ⟨3, ![1, 256, 128]⟩
abbrev S1x8192x128 : Shape := ⟨3, ![1, 8192, 128]⟩
abbrev S8448x128 : Shape := ⟨2, ![8448, 128]⟩
abbrev S8448x256 : Shape := ⟨2, ![8448, 256]⟩
abbrev S8x128x2816 : Shape := ⟨3, ![8, 128, 2816]⟩
abbrev S256x128 : Shape := ⟨2, ![256, 128]⟩
abbrev S8192x128 : Shape := ⟨2, ![8192, 128]⟩
abbrev S512x128 : Shape := ⟨2, ![512, 128]⟩
abbrev S128x128 : Shape := ⟨2, ![128, 128]⟩
abbrev S2816x128 : Shape := ⟨2, ![2816, 128]⟩
abbrev S128x2816 : Shape := ⟨2, ![128, 2816]⟩
abbrev S1x128x2816 : Shape := ⟨3, ![1, 128, 2816]⟩
abbrev S128x1 : Shape := ⟨2, ![128, 1]⟩
abbrev S128x256 : Shape := ⟨2, ![128, 256]⟩
abbrev S2816x256 : Shape := ⟨2, ![2816, 256]⟩
abbrev S128 : Shape := ⟨1, ![128]⟩
abbrev S1x64 : Shape := ⟨2, ![1, 64]⟩
abbrev S1 : Shape := ⟨1, ![1]⟩
abbrev S1x1 : Shape := ⟨2, ![1, 1]⟩
abbrev S1x128x128 : Shape := ⟨3, ![1, 128, 128]⟩

abbrev nBuf : Space → Nat
  | .hbm => 6
  | .vmem => 17
  | .smem => 0
  | _ => 0

abbrev bufTy : (tb : Table) → Fin (tcTables nBuf tb) → BufTy
  | .hbm, ⟨0, _⟩ => ⟨S4x64, .f32⟩
  | .hbm, ⟨1, _⟩ => ⟨S4x8192x2304, .f32⟩
  | .hbm, ⟨2, _⟩ => ⟨S4x256x2304, .f32⟩
  | .hbm, ⟨3, _⟩ => ⟨S4x8192x2304, .bf16⟩
  | .hbm, ⟨4, _⟩ => ⟨S4x256x2304, .bf16⟩
  | .hbm, ⟨5, _⟩ => ⟨S4x8192x512, .bf16⟩
  | .local _ .vmem, ⟨0, _⟩ => ⟨S4x64, .f32⟩
  | .local _ .vmem, ⟨1, _⟩ => ⟨S1x512x128, .bf16⟩
  | .local _ .vmem, ⟨2, _⟩ => ⟨S1x512x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x512x128, .bf16⟩
  | .local _ .vmem, ⟨12, _⟩ => ⟨S1x512x128, .bf16⟩
  | .local _ .vmem, ⟨13, _⟩ => ⟨S8448x128, .bf16⟩
  | .local _ .vmem, ⟨14, _⟩ => ⟨S8448x256, .bf16⟩
  | .local _ .vmem, ⟨15, _⟩ => ⟨S8x128x2816, .f32⟩
  | .local _ .vmem, ⟨16, _⟩ => ⟨S8x128x2816, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S4x64 : Shape := ⟨2, ![4, 64]⟩
abbrev S4x8192x2304 : Shape := ⟨3, ![4, 8192, 2304]⟩
abbrev S4x256x2304 : Shape := ⟨3, ![4, 256, 2304]⟩
abbrev S4x8192x512 : Shape := ⟨3, ![4, 8192, 512]⟩
abbrev S4x256x512 : Shape := ⟨3, ![4, 256, 512]⟩
abbrev S4x8192x4x2x64 : Shape := ⟨5, ![4, 8192, 4, 2, 64]⟩
abbrev S4x8448x512 : Shape := ⟨3, ![4, 8448, 512]⟩
abbrev S4x8448x4x2x64 : Shape := ⟨5, ![4, 8448, 4, 2, 64]⟩
abbrev S4x8448x4x128 : Shape := ⟨4, ![4, 8448, 4, 128]⟩
abbrev S1x64 : Shape := ⟨2, ![1, 64]⟩
abbrev S64 : Shape := ⟨1, ![64]⟩
abbrev S_ : Shape := ⟨0, ![]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x8192x2304, .f32⟩
  | .hbm, ⟨2, _⟩ => ⟨S4x256x2304, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S4x256x512, .f32⟩
  | .hbm, ⟨7, _⟩ => ⟨S4x256x512, .f32⟩
  | .hbm, ⟨8, _⟩ => ⟨S4x8192x4x2x64, .f32⟩
  | .hbm, ⟨9, _⟩ => ⟨S4x8448x512, .f32⟩
  | .hbm, ⟨10, _⟩ => ⟨S4x8448x4x2x64, .f32⟩
  | .hbm, ⟨11, _⟩ => ⟨S4x8448x512, .f32⟩
  | .hbm, ⟨12, _⟩ => ⟨S4x8448x4x128, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x4x2x8192x8448, .f32⟩
  | .hbm, ⟨33, _⟩ => ⟨S_, .f32⟩
  | .hbm, ⟨34, _⟩ => ⟨S4x4x2x8192x8448, .f32⟩
  | .hbm, ⟨35, _⟩ => ⟨S4x4x2x8192x8448, .f32⟩
  | .hbm, ⟨36, _⟩ => ⟨S_, .f32⟩
  | .hbm, ⟨37, _⟩ => ⟨S4x4x2x8192, .f32⟩
  | .hbm, ⟨38, _⟩ => ⟨S_, .f32⟩
  | .hbm, ⟨39, _⟩ => ⟨S4x4x2x8192, .f32⟩
  | .hbm, ⟨40, _⟩ => ⟨S4x4x2x8192, .f32⟩
  | .hbm, ⟨41, _⟩ => ⟨S4x4x2x8192x1, .f32⟩
  | .hbm, ⟨42, _⟩ => ⟨S4x4x2x8192x8448, .f32⟩
  | .hbm, ⟨43, _⟩ => ⟨S4x4x2x8192x8448, .f32⟩
  | .hbm, ⟨44, _⟩ => ⟨S4x4x2x8192x8448, .f32⟩
  | .hbm, ⟨45, _⟩ => ⟨S_, .f32⟩
  | .hbm, ⟨46, _⟩ => ⟨S4x4x2x8192, .f32⟩
  | .hbm, ⟨47, _⟩ => ⟨S4x4x2x8192x1, .f32⟩
  | .hbm, ⟨48, _⟩ => ⟨S4x4x2x8192x8448, .f32⟩
  | .hbm, ⟨49, _⟩ => ⟨S4x4x2x8192x8448, .f32⟩
  | .hbm, ⟨50, _⟩ => ⟨S4x4x1x8192x8448, .f32⟩
  | .hbm, ⟨51, _⟩ => ⟨S4x4x8192x8448, .f32⟩
  | .hbm, ⟨52, _⟩ => ⟨S4x4x1x8192x8448, .f32⟩
  | .hbm, ⟨53, _⟩ => ⟨S4x4x8192x8448, .f32⟩
  | .hbm, ⟨54, _⟩ => ⟨S4x4x8192x8448, .f32⟩
  | .hbm, ⟨55, _⟩ => ⟨S4x4x8192x8448, .f32⟩
  | .hbm, ⟨56, _⟩ => ⟨S4x4x8192x8448, .f32⟩
  | .hbm, ⟨57, _⟩ => ⟨S4x4x128x8192, .f32⟩
  | .hbm, ⟨58, _⟩ => ⟨S4x8192x4x128, .f32⟩
  | .hbm, ⟨59, _⟩ => ⟨S4x8192x4x128, .f32⟩
  | .hbm, ⟨60, _⟩ => ⟨S_, .f32⟩
  | .hbm, ⟨61, _⟩ => ⟨S4x8192x4, .f32⟩
  | .hbm, ⟨62, _⟩ => ⟨S4x8192x4x1, .f32⟩
  | .hbm, ⟨63, _⟩ => ⟨S_, .f32⟩
  | .hbm, ⟨64, _⟩ => ⟨S4x8192x4x1, .f32⟩
  | .hbm, ⟨65, _⟩ => ⟨S4x8192x4x1, .f32⟩
  | .hbm, ⟨66, _⟩ => ⟨S_, .f32⟩
  | .hbm, ⟨67, _⟩ => ⟨S4x8192x4x1, .f32⟩
  | .hbm, ⟨68, _⟩ => ⟨S4x8192x4x1, .f32⟩
  | .hbm, ⟨69, _⟩ => ⟨S4x8192x4x1, .f32⟩
  | .hbm, ⟨70, _⟩ => ⟨S4x8192x4x128, .f32⟩
  | .hbm, ⟨71, _⟩ => ⟨S4x8192x4x128, .f32⟩
  | .hbm, ⟨72, _⟩ => ⟨S_, .f32⟩
  | .hbm, ⟨73, _⟩ => ⟨S4x8192x4x128, .f32⟩
  | .hbm, ⟨74, _⟩ => ⟨S4x8192x4x128, .f32⟩
  | .hbm, ⟨75, _⟩ => ⟨S4x8192x512, .f32⟩
  | .hbm, ⟨76, _⟩ => ⟨S4x8192x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S4x8192x2688 : Shape := ⟨3, ![4, 8192, 2688]⟩
abbrev S8x6144 : Shape := ⟨2, ![8, 6144]⟩
abbrev S128 : Shape := ⟨1, ![128]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x1x6144 : Shape := ⟨3, ![8, 1, 6144]⟩
abbrev S1x128 : Shape := ⟨2, ![1, 128]⟩
abbrev S1x1024 : Shape := ⟨2, ![1, 1024]⟩
abbrev S1x512x1024 : Shape := ⟨3, ![1, 512, 1024]⟩
abbrev S1x512x512 : Shape := ⟨3, ![1, 512, 512]⟩
abbrev S1x1x6144 : Shape := ⟨3, ![1, 1, 6144]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x6144 : Shape := ⟨2, ![1, 6144]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 21
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S4x8192x2688, .f32⟩
  | .hbm, ⟨6, _⟩ => ⟨S8x6144, .f32⟩
  | .hbm, ⟨7, _⟩ => ⟨S128, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S8x1x6144, .f32⟩
  | .hbm, ⟨14, _⟩ => ⟨S2816x1024, .bf16⟩
  | .hbm, ⟨15, _⟩ => ⟨S1024x1024, .bf16⟩
  | .hbm, ⟨16, _⟩ => ⟨S1024x5632, .bf16⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x128, .f32⟩
  | .local _ .vmem, ⟨15, _⟩ => ⟨S1x1x6144, .f32⟩
  | .local _ .vmem, ⟨16, _⟩ => ⟨S1x1x6144, .f32⟩
  | .local _ .vmem, ⟨17, _⟩ => ⟨S1x1024, .f32⟩
  | .local _ .vmem, ⟨18, _⟩ => ⟨S1024x1024, .bf16⟩
  | .local _ .vmem, ⟨19, _⟩ => ⟨S1024x5632, .bf16⟩
  | .local _ .vmem, ⟨20, _⟩ => ⟨S2816x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S4x8192x2688 : Shape := ⟨3, ![4, 8192, 2688]⟩
abbrev S8x6144 : Shape := ⟨2, ![8, 6144]⟩
abbrev S128 : Shape := ⟨1, ![128]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S4x8192x4x128 : Shape := ⟨4, ![4, 8192, 4, 128]⟩
abbrev S_ : Shape := ⟨0, ![]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x6144 : Shape := ⟨2, ![4, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 132
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S4x8192x512, .f32⟩
  | 4 => ⟨S4x8192x512, .f32⟩
  | 5 => ⟨S4x8192x2688, .f32⟩
  | 6 => ⟨S8x6144, .f32⟩
  | 7 => ⟨S128, .f32⟩
  | 8 => ⟨S1024, .f32⟩
  | 9 => ⟨S1024x1024, .f32⟩
  | 10 => ⟨S1024x5632, .f32⟩
  | 11 => ⟨S2816x1024, .f32⟩
  | 12 => ⟨S1024, .f32⟩
  | 13 => ⟨S4x8192x512, .f32⟩
  | 14 => ⟨S4x8192x512, .f32⟩
  | 15 => ⟨S4x8192x512, .f32⟩
  | 16 => ⟨S4x8192x4x128, .f32⟩
  | 17 => ⟨S4x8192x4x128, .f32⟩
  | 18 => ⟨S_, .f32⟩
  | 19 => ⟨S4x8192x4, .f32⟩
  | 20 => ⟨S4x8192x4x1, .f32⟩
  | 21 => ⟨S_, .f32⟩
  | 22 => ⟨S4x8192x4x1, .f32⟩
  | 23 => ⟨S4x8192x4x1, .f32⟩
  | 24 => ⟨S_, .f32⟩
  | 25 => ⟨S4x8192x4x1, .f32⟩
  | 26 => ⟨S4x8192x4x1, .f32⟩
  | 27 => ⟨S4x8192x4x1, .f32⟩
  | 28 => ⟨S4x8192x4x128, .f32⟩
  | 29 => ⟨S4x8192x4x128, .f32⟩
  | 30 => ⟨S1x1x1x128, .f32⟩
  | 31 => ⟨S4x8192x4x128, .f32⟩
  | 32 => ⟨S4x8192x4x128, .f32⟩
  | 33 => ⟨S4x8192x512, .f32⟩
  | 34 => ⟨S4x8192x512, .f32⟩
  | 35 => ⟨S4x8192x512, .f32⟩
  | 36 => ⟨S_, .f32⟩
  | 37 => ⟨S4x8192x512, .f32⟩
  | 38 => ⟨S4x8192x512, .f32⟩
  | 39 => ⟨S_, .f32⟩
  | 40 => ⟨S4x8192x512, .f32⟩
  | 41 => ⟨S4x8192x512, .f32⟩
  | 42 => ⟨S4x8192x512, .f32⟩
  | 43 => ⟨S4x8192x512, .f32⟩
  | 44 => ⟨S4x8192x512, .f32⟩
  | 45 => ⟨S4x8192x512, .f32⟩
  | 46 => ⟨S4x8192x512, .f32⟩
  | 47 => ⟨S_, .f32⟩
  | 48 => ⟨S4x8192x512, .f32⟩
  | 49 => ⟨S4x8192x512, .f32⟩
  | 50 => ⟨S4x8192x512, .f32⟩
  | 51 => ⟨S_, .f32⟩
  | 52 => ⟨S4x8192x512, .f32⟩
  | 53 => ⟨S4x8192x512, .f32⟩
  | 54 => ⟨S4x8192x512, .f32⟩
  | 55 => ⟨S_, .f32⟩
  | 56 => ⟨S4x8192x512, .f32⟩
  | 57 => ⟨S4x8192x512, .f32⟩
  | 58 => ⟨S_, .f32⟩
  | 59 => ⟨S4x8192x512, .f32⟩
  | 60 => ⟨S4x8192x512, .f32⟩
  | 61 => ⟨S4x8192x512, .f32⟩
  | 62 => ⟨S4x8192x512, .f32⟩
  | 63 => ⟨S4x8192x1024, .f32⟩
  | 64 => ⟨S4x6144, .f32⟩
  | 65 => ⟨S4x1x6144, .f32⟩
  | 66 => ⟨S4x1x1024, .f32⟩
  | 67 => ⟨S4x1x1024, .f32⟩
  | 68 => ⟨S4x1x1024, .f32⟩
  | 69 => ⟨S4x1x1024, .f32⟩
  | 70 => ⟨S4x1x1024, .f32⟩
  | 71 => ⟨S4x1x1024, .f32⟩
  | 72 => ⟨S4x8192x1024, .f32⟩
  | 73 => ⟨S4x8192x1024, .f32⟩
  | 74 => ⟨S4x8192x1024, .f32⟩
  | 75 => ⟨S4x8192x1024, .f32⟩
  | 76 => ⟨S4x8192x1024, .f32⟩
  | 77 => ⟨S_, .f32⟩
  | 78 => ⟨S4x8192, .f32⟩
  | 79 => ⟨S4x8192x1, .f32⟩
  | 80 => ⟨S_, .f32⟩
  | 81 => ⟨S4x8192x1, .f32⟩
  | 82 => ⟨S4x8192x1, .f32⟩
  | 83 => ⟨S_, .f32⟩
  | 84 => ⟨S4x8192x1, .f32⟩
  | 85 => ⟨S4x8192x1, .f32⟩
  | 86 => ⟨S4x8192x1, .f32⟩
  | 87 => ⟨S4x8192x1024, .f32⟩
  | 88 => ⟨S4x8192x1024, .f32⟩
  | 89 => ⟨S1x1x1024, .f32⟩
  | 90 => ⟨S4x8192x1024, .f32⟩
  | 91 => ⟨S4x8192x1024, .f32⟩
  | 92 => ⟨S_, .f32⟩
  | 93 => ⟨S4x1x1024, .f32⟩
  | 94 => ⟨S4x1x1024, .f32⟩
  | 95 => ⟨S4x8192x1024, .f32⟩
  | 96 => ⟨S4x8192x1024, .f32⟩
  | 97 => ⟨S4x8192x1024, .f32⟩
  | 98 => ⟨S4x8192x1024, .f32⟩
  | 99 => ⟨S4x8192x5632, .f32⟩
  | 100 => ⟨S4x8192x2816, .f32⟩
  | 101 => ⟨S4x8192x2816, .f32⟩
  | 102 => ⟨S4x8192x2816, .f32⟩
  | 103 => ⟨S4x8192x2816, .f32⟩
  | 104 => ⟨S_, .f32⟩
  | 105 => ⟨S4x8192x2816, .f32⟩
  | 106 => ⟨S4x8192x2816, .f32⟩
  | 107 => ⟨S_, .f32⟩
  | 108 => ⟨S4x8192x2816, .f32⟩
  | 109 => ⟨S4x8192x2816, .f32⟩
  | 110 => ⟨S4x8192x2816, .f32⟩
  | 111 => ⟨S4x8192x2816, .f32⟩
  | 112 => ⟨S4x8192x1024, .f32⟩
  | 113 => ⟨S4x8192x1024, .f32⟩
  | 114 => ⟨S4x8192x1024, .f32⟩
  | 115 => ⟨S4x8192x1024, .f32⟩
  | 116 => ⟨S4x8192x1024, .f32⟩
  | 117 => ⟨S_, .f32⟩
  | 118 => ⟨S4x8192, .f32⟩
  | 119 => ⟨S4x8192x1, .f32⟩
  | 120 => ⟨S_, .f32⟩
  | 121 => ⟨S4x8192x1, .f32⟩
  | 122 => ⟨S4x8192x1, .f32⟩
  | 123 => ⟨S_, .f32⟩
  | 124 => ⟨S4x8192x1, .f32⟩
  | 125 => ⟨S4x8192x1, .f32⟩
  | 126 => ⟨S4x8192x1, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S1x1x1024, .f32⟩
  | 2 => ⟨S4x8192x1024, .f32⟩
  | 3 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_10 : Ref sig .tc := ⟨.hbm, 117, rfl⟩
abbrev main_v77 : Ref sig .tc := ⟨.hbm, 118, rfl⟩
abbrev main_v78 : Ref sig .tc := ⟨.hbm, 119, rfl⟩
abbrev main_cst_11 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S8x6144 : Shape := ⟨2, ![8, 6144]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x1x6144 : Shape := ⟨3, ![8, 1, 6144]⟩
abbrev S1x1024 : Shape := ⟨2, ![1, 1024]⟩
abbrev S1x512x1024 : Shape := ⟨3, ![1, 512, 1024]⟩
abbrev S1x512x512 : Shape := ⟨3, ![1, 512, 512]⟩
abbrev S1x1x6144 : Shape := ⟨3, ![1, 1, 6144]⟩
abbrev S512x1024 : Shape := ⟨2, ![512, 1024]⟩
abbrev S512x512 : Shape := ⟨2, ![512, 512]⟩
abbrev S1x6144 : Shape := ⟨2, ![1, 6144]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S8x6144, .f32⟩
  | .hbm, ⟨4, _⟩ => ⟨S1024, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S8x1x6144, .f32⟩
  | .hbm, ⟨9, _⟩ => ⟨S2816x1024, .bf16⟩
  | .hbm, ⟨10, _⟩ => ⟨S1024x1024, .bf16⟩
  | .hbm, ⟨11, _⟩ => ⟨S1024x5632, .bf16⟩
  | .hbm, ⟨12, _⟩ => ⟨S1x1024, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x8192x1024 : Shape := ⟨3, ![4, 8192, 1024]⟩
abbrev S4x8192x512 : Shape := ⟨3, ![4, 8192, 512]⟩
abbrev S8x6144 : Shape := ⟨2, ![8, 6144]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S8x6144, .f32⟩
  | .hbm, ⟨4, _⟩ => ⟨S1024, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S4x8192x1024, .bf16⟩
  | .hbm, ⟨9, _⟩ => ⟨S4x8192x1024, .f32⟩
  | .hbm, ⟨10, _⟩ => ⟨S4x6144, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x5632, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S_, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel4.lean ====
abbrev S4x8192x1024 : Shape := ⟨3, ![4, 8192, 1024]⟩
abbrev S8x6144 : Shape := ⟨2, ![8, 6144]⟩
abbrev S1024 : Shape := ⟨1, ![1024]⟩
abbrev S1024x2592 : Shape := ⟨2, ![1024, 2592]⟩
abbrev S8x1x6144 : Shape := ⟨3, ![8, 1, 6144]⟩
abbrev S1024x256 : Shape := ⟨2, ![1024, 256]⟩
abbrev S1024x512 : Shape := ⟨2, ![1024, 512]⟩
abbrev S1024x32 : Shape := ⟨2, ![1024, 32]⟩
abbrev S_ : Shape := ⟨0, ![]⟩
abbrev S1024x96 : Shape := ⟨2, ![1024, 96]⟩
abbrev S1024x2688 : Shape := ⟨2, ![1024, 2688]⟩
abbrev S1x1024 : Shape := ⟨2, ![1, 1024]⟩
abbrev S4x8192x2688 : Shape := ⟨3, ![4, 8192, 2688]⟩
abbrev S1x512x1024 : Shape := ⟨3, ![1, 512, 1024]⟩
abbrev S1x1x6144 : Shape := ⟨3, ![1, 1, 6144]⟩
abbrev S1x512x2688 : Shape := ⟨3, ![1, 512, 2688]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x512x768 : Shape := ⟨3, ![1, 512, 768]⟩
abbrev S1024x384 : Shape := ⟨2, ![1024, 384]⟩
abbrev S512x384 : Shape := ⟨2, ![512, 384]⟩
abbrev S1x512x384 : Shape := ⟨3, ![1, 512, 384]⟩

abbrev nBuf : Space → Nat
  | .hbm => 21
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8x6144, .f32⟩
  | .hbm, ⟨2, _⟩ => ⟨S1024, .f32⟩
  | .hbm, ⟨3, _⟩ => ⟨S1024x2592, .f32⟩
  | .hbm, ⟨4, _⟩ => ⟨S8x1x6144, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .f32⟩
  | .hbm, ⟨9, _⟩ => ⟨S1024x32, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x96, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x2688, .f32⟩
  | .hbm, ⟨18, _⟩ => ⟨S1024x2688, .bf16⟩
  | .hbm, ⟨19, _⟩ => ⟨S1x1024, .f32⟩
  | .hbm, ⟨20, _⟩ => ⟨S4x8192x2688, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2688, .bf16⟩
  | .local _ .vmem, ⟨6, _⟩ => ⟨S1x512x2688, .f32⟩
  | .local _ .vmem, ⟨7, _⟩ => ⟨S1x512x2688, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x8192x1024 : Shape := ⟨3, ![4, 8192, 1024]⟩
abbrev S8x6144 : Shape := ⟨2, ![8, 6144]⟩
abbrev S1024 : Shape := ⟨1, ![1024]⟩
abbrev S1024x2592 : Shape := ⟨2, ![1024, 2592]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2592 : Shape := ⟨3, ![4, 8192, 2592]⟩
abbrev S4x8192x256 : Shape := ⟨3, ![4, 8192, 256]⟩
abbrev S4x8192x512 : Shape := ⟨3, ![4, 8192, 512]⟩
abbrev S4x8192x32 : Shape := ⟨3, ![4, 8192, 32]⟩
abbrev S4x8192x96 : Shape := ⟨3, ![4, 8192, 96]⟩
abbrev S4x8192x2688 : Shape := ⟨3, ![4, 8192, 2688]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x6144, .f32⟩
  | .hbm, ⟨2, _⟩ => ⟨S1024, .f32⟩
  | .hbm, ⟨3, _⟩ => ⟨S1024x2592, .f32⟩
  | .hbm, ⟨4, _⟩ => ⟨S4x6144, .f32⟩
  | .hbm, ⟨5, _⟩ => ⟨S4x1x6144, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x2592, .f32⟩
  | .hbm, ⟨36, _⟩ => ⟨S4x8192x256, .f32⟩
  | .hbm, ⟨37, _⟩ => ⟨S4x8192x256, .f32⟩
  | .hbm, ⟨38, _⟩ => ⟨S4x8192x512, .f32⟩
  | .hbm, ⟨39, _⟩ => ⟨S4x8192x512, .f32⟩
  | .hbm, ⟨40, _⟩ => ⟨S4x8192x32, .f32⟩
  | .hbm, ⟨41, _⟩ => ⟨S4x8192x512, .f32⟩
  | .hbm, ⟨42, _⟩ => ⟨S4x8192x512, .f32⟩
  | .hbm, ⟨43, _⟩ => ⟨S_, .f32⟩
  | .hbm, ⟨44, _⟩ => ⟨S4x8192x96, .f32⟩
  | .hbm, ⟨45, _⟩ => ⟨S_, .f32⟩
  | .hbm, ⟨46, _⟩ => ⟨S4x8192x256, .f32⟩
  | .hbm, ⟨47, _⟩ => ⟨S4x8192x256, .f32⟩
  | .hbm, ⟨48, _⟩ => ⟨S4x8192x2688, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel5.lean ====
abbrev S4x8192x1024 : Shape := ⟨3, ![4, 8192, 1024]⟩
abbrev S8x6144 : Shape := ⟨2, ![8, 6144]⟩
abbrev S1024 : Shape := ⟨1, ![1024]⟩
abbrev S1024x2304 : Shape := ⟨2, ![1024, 2304]⟩
abbrev S8x1x6144 : Shape := ⟨3, ![8, 1, 6144]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x256 : Shape := ⟨2, ![8192, 256]⟩
abbrev S1x1024 : Shape := ⟨2, ![1, 1024]⟩
abbrev S4x8192x2304 : Shape := ⟨3, ![4, 8192, 2304]⟩
abbrev S1x512x1024 : Shape := ⟨3, ![1, 512, 1024]⟩
abbrev S1x1x6144 : Shape := ⟨3, ![1, 1, 6144]⟩
abbrev S512x256 : Shape := ⟨2, ![512, 256]⟩
abbrev S1x512x2304 : Shape := ⟨3, ![1, 512, 2304]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S512x128 : Shape := ⟨2, ![512, 128]⟩
abbrev S1024x768 : Shape := ⟨2, ![1024, 768]⟩
abbrev S512x768 : Shape := ⟨2, ![512, 768]⟩
abbrev S1x512x128 : Shape := ⟨3, ![1, 512, 128]⟩

abbrev nBuf : Space → Nat
  | .hbm => 57
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S8x6144, .f32⟩
  | .hbm, ⟨2, _⟩ => ⟨S1024, .f32⟩
  | .hbm, ⟨3, _⟩ => ⟨S1024x2304, .f32⟩
  | .hbm, ⟨4, _⟩ => ⟨S8x1x6144, .f32⟩
  | .hbm, ⟨5, _⟩ => ⟨S1024x2304, .bf16⟩
  | .hbm, ⟨6, _⟩ => ⟨S128, .i32⟩
  | .hbm, ⟨7, _⟩ => ⟨S128x1, .i32⟩
  | .hbm, ⟨8, _⟩ => ⟨S128x64, .i32⟩
  | .hbm, ⟨9, _⟩ => ⟨S8192, .i32⟩
  | .hbm, ⟨10, _⟩ => ⟨S64, .i32⟩
  | .hbm, ⟨11, _⟩ => ⟨S1x64, .i32⟩
  | .hbm, ⟨12, _⟩ => ⟨S128x64, .i32⟩
  | .hbm, ⟨13, _⟩ => ⟨S8192, .i32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S8192, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192, .f32⟩
  | .hbm, ⟨35, _⟩ => ⟨S8192x1, .f32⟩
  | .hbm, ⟨36, _⟩ => ⟨S1x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x64, .f32⟩
  | .hbm, ⟨45, _⟩ => ⟨S8192x16, .f32⟩
  | .hbm, ⟨46, _⟩ => ⟨S8192x16, .f32⟩
  | .hbm, ⟨47, _⟩ => ⟨S8192x64, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S1x8192x1x64, .f32⟩
  | .hbm, ⟨52, _⟩ => ⟨S1x8192x2x64, .f32⟩
  | .hbm, ⟨53, _⟩ => ⟨S8192x128, .f32⟩
  | .hbm, ⟨54, _⟩ => ⟨S8192x256, .f32⟩
  | .hbm, ⟨55, _⟩ => ⟨S1x1024, .f32⟩
  | .hbm, ⟨56, _⟩ => ⟨S4x8192x2304, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2304, .bf16⟩
  | .local _ .vmem, ⟨6, _⟩ => ⟨S512x256, .f32⟩
  | .local _ .vmem, ⟨7, _⟩ => ⟨S512x256, .f32⟩
  | .local _ .vmem, ⟨8, _⟩ => ⟨S1x512x2304, .bf16⟩
  | .local _ .vmem, ⟨9, _⟩ => ⟨S1x512x2304, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x8192x1024 : Shape := ⟨3, ![4, 8192, 1024]⟩
abbrev S8x6144 : Shape := ⟨2, ![8, 6144]⟩
abbrev S1024 : Shape := ⟨1, ![1024]⟩
abbrev S1024x2304 : Shape := ⟨2, ![1024, 2304]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S4x6144 : Shape := ⟨2, ![4, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2304 : Shape := ⟨3, ![4, 8192, 2304]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S1x8192x1x16 : Shape := ⟨4, ![1, 8192, 1, 16]⟩
abbrev S4x8192x8x32 : Shape := ⟨4, ![4, 8192, 8, 32]⟩
abbrev S4x8192x8x16 : Shape := ⟨4, ![4, 8192, 8, 16]⟩
abbrev S4x8192x2x64 : Shape := ⟨4, ![4, 8192, 2, 64]⟩
abbrev S4x8192x2x32 : Shape := ⟨4, ![4, 8192, 2, 32]⟩
abbrev S4x8192x2x16 : Shape := ⟨4, ![4, 8192, 2, 16]⟩

abbrev nBuf : Space → Nat
  | .hbm => 222
  | .vmem => 0
  | .smem => 0
  | _ => 0

abbrev hbmTy0_0 (i : Nat) : BufTy := match i % 128 with
  | 0 => ⟨S4x8192x1024, .f32⟩
  | 1 => ⟨S8x6144, .f32⟩
  | 2 => ⟨S1024, .f32⟩
  | 3 => ⟨S1024x2304, .f32⟩
  | 4 => ⟨S128, .i32⟩
  | 5 => ⟨S128x1, .i32⟩
  | 6 => ⟨S128x64, .i32⟩
  | 7 => ⟨S8192, .i32⟩
  | 8 => ⟨S64, .i32⟩
  | 9 => ⟨S1x64, .i32⟩
  | 10 => ⟨S128x64, .i32⟩
  | 11 => ⟨S8192, .i32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8192, .f32⟩
  | 27 => ⟨S8192x1, .f32⟩
  | 28 => ⟨S1x16, .f32⟩
  | 29 => ⟨S8192x16, .f32⟩
  | 30 => ⟨S8192x16, .f32⟩
  | 31 => ⟨S8192x16, .f32⟩
  | 32 => ⟨S8192, .f32⟩
  | 33 => ⟨S8192x1, .f32⟩
  | 34 => ⟨S1x16, .f32⟩
  | 35 => ⟨S8192x16, .f32⟩
  | 36 => ⟨S8192x16, .f32⟩
  | 37 => ⟨S8192x16, .f32⟩
  | 38 => ⟨S8192x16, .f32⟩
  | 39 => ⟨S8192x16, .f32⟩
  | 40 => ⟨S8192x16, .f32⟩
  | 41 => ⟨S8192x16, .f32⟩
  | 42 => ⟨S4x6144, .f32⟩
  | 43 => ⟨S4x1x6144, .f32⟩
  | 44 => ⟨S4x1x1024, .f32⟩
  | 45 => ⟨S4x1x1024, .f32⟩
  | 46 => ⟨S4x1x1024, .f32⟩
  | 47 => ⟨S4x1x1024, .f32⟩
  | 48 => ⟨S4x1x1024, .f32⟩
  | 49 => ⟨S4x1x1024, .f32⟩
  | 50 => ⟨S4x8192x1024, .f32⟩
  | 51 => ⟨S_, .f32⟩
  | 52 => ⟨S4x8192, .f32⟩
  | 53 => ⟨S4x8192x1, .f32⟩
  | 54 => ⟨S_, .f32⟩
  | 55 => ⟨S4x8192x1, .f32⟩
  | 56 => ⟨S4x8192x1, .f32⟩
  | 57 => ⟨S_, .f32⟩
  | 58 => ⟨S4x8192x1, .f32⟩
  | 59 => ⟨S4x8192x1, .f32⟩
  | 60 => ⟨S4x8192x1, .f32⟩
  | 61 => ⟨S4x8192x1024, .f32⟩
  | 62 => ⟨S4x8192x1024, .f32⟩
  | 63 => ⟨S1x1x1024, .f32⟩
  | 64 => ⟨S4x8192x1024, .f32⟩
  | 65 => ⟨S4x8192x1024, .f32⟩
  | 66 => ⟨S_, .f32⟩
  | 67 => ⟨S4x1x1024, .f32⟩
  | 68 => ⟨S4x1x1024, .f32⟩
  | 69 => ⟨S4x8192x1024, .f32⟩
  | 70 => ⟨S4x8192x1024, .f32⟩
  | 71 => ⟨S4x8192x1024, .f32⟩
  | 72 => ⟨S4x8192x1024, .f32⟩
  | 73 => ⟨S4x8192x2304, .f32⟩
  | 74 => ⟨S4x8192x512, .f32⟩
  | 75 => ⟨S4x8192x512, .f32⟩
  | 76 => ⟨S4x8192x512, .f32⟩
  | 77 => ⟨S4x8192x512, .f32⟩
  | 78 => ⟨S4x8192x128, .f32⟩
  | 79 => ⟨S4x8192x128, .f32⟩
  | 80 => ⟨S4x8192x8x64, .f32⟩
  | 81 => ⟨S1x8192x1x16, .f32⟩
  | 82 => ⟨S1x8192x1x16, .f32⟩
  | 83 => ⟨S1x8192x1x16, .f32⟩
  | 84 => ⟨S1x8192x1x16, .f32⟩
  | 85 => ⟨S4x8192x8x32, .f32⟩
  | 86 => ⟨S4x8192x8x16, .f32⟩
  | 87 => ⟨S4x8192x8x16, .f32⟩
  | 88 => ⟨S4x8192x8x16, .f32⟩
  | 89 => ⟨S4x8192x8x16, .f32⟩
  | 90 => ⟨S4x8192x8x16, .f32⟩
  | 91 => ⟨S4x8192x8x16, .f32⟩
  | 92 => ⟨S4x8192x8x16, .f32⟩
  | 93 => ⟨S4x8192x8x16, .f32⟩
  | 94 => ⟨S4x8192x8x16, .f32⟩
  | 95 => ⟨S4x8192x8x16, .f32⟩
  | 96 => ⟨S4x8192x8x16, .f32⟩
  | 97 => ⟨S4x8192x8x16, .f32⟩
  | 98 => ⟨S4x8192x8x32, .f32⟩
  | 99 => ⟨S4x8192x8x32, .f32⟩
  | 100 => ⟨S4x8192x8x16, .f32⟩
  | 101 => ⟨S4x8192x8x16, .f32⟩
  | 102 => ⟨S4x8192x8x16, .f32⟩
  | 103 => ⟨S4x8192x8x16, .f32⟩
  | 104 => ⟨S4x8192x8x16, .f32⟩
  | 105 => ⟨S4x8192x8x16, .f32⟩
  | 106 => ⟨S4x8192x8x16, .f32⟩
  | 107 => ⟨S4x8192x8x16, .f32⟩
  | 108 => ⟨S4x8192x8x16, .f32⟩
  | 109 => ⟨S4x8192x8x16, .f32⟩
  | 110 => ⟨S4x8192x8x16, .f32⟩
  | 111 => ⟨S4x8192x8x16, .f32⟩
  | 112 => ⟨S4x8192x8x32, .f32⟩
  | 113 => ⟨S4x8192x8x64, .f32⟩
  | 114 => ⟨S4x8192x512, .f32⟩
  | 115 => ⟨S4x8192x8x64, .f32⟩
  | 116 => ⟨S1x8192x1x16, .f32⟩
  | 117 => ⟨S1x8192x1x16, .f32⟩
  | 118 => ⟨S1x8192x1x16, .f32⟩
  | 119 => ⟨S1x8192x1x16, .f32⟩
  | 120 => ⟨S4x8192x8x32, .f32⟩
  | 121 => ⟨S4x8192x8x16, .f32⟩
  | 122 => ⟨S4x8192x8x16, .f32⟩
  | 123 => ⟨S4x8192x8x16, .f32⟩
  | 124 => ⟨S4x8192x8x16, .f32⟩
  | 125 => ⟨S4x8192x8x16, .f32⟩
  | 126 => ⟨S4x8192x8x16, .f32⟩
  | 127 => ⟨S4x8192x8x16, .f32⟩
  | _ => ⟨S4x8192x1024, .f32⟩

abbrev hbmTy0_1 (i : Nat) : BufTy := match i % 128 with
  | 0 => ⟨S4x8192x8x16, .f32⟩
  | 1 => ⟨S4x8192x8x16, .f32⟩
  | 2 => ⟨S4x8192x8x16, .f32⟩
  | 3 => ⟨S4x8192x8x16, .f32⟩
  | 4 => ⟨S4x8192x8x16, .f32⟩
  | 5 => ⟨S4x8192x8x32, .f32⟩
  | 6 => ⟨S4x8192x8x32, .f32⟩
  | 7 => ⟨S4x8192x8x16, .f32⟩
  | 8 => ⟨S4x8192x8x16, .f32⟩
  | 9 => ⟨S4x8192x8x16, .f32⟩
  | 10 => ⟨S4x8192x8x16, .f32⟩
  | 11 => ⟨S4x8192x8x16, .f32⟩
  | 12 => ⟨S4x8192x8x16, .f32⟩
  | 13 => ⟨S4x8192x8x16, .f32⟩
  | 14 => ⟨S4x8192x8x16, .f32⟩
  | 15 => ⟨S4x8192x8x16, .f32⟩
  | 16 => ⟨S4x8192x8x16, .f32⟩
  | 17 => ⟨S4x8192x8x16, .f32⟩
  | 18 => ⟨S4x8192x8x16, .f32⟩
  | 19 => ⟨S4x8192x8x32, .f32⟩
  | 20 => ⟨S4x8192x8x64, .f32⟩
  | 21 => ⟨S4x8192x512, .f32⟩
  | 22 => ⟨S4x8192x8x64, .f32⟩
  | 23 => ⟨S1x8192x1x16, .f32⟩
  | 24 => ⟨S1x8192x1x16, .f32⟩
  | 25 => ⟨S1x8192x1x16, .f32⟩
  | 26 => ⟨S1x8192x1x16, .f32⟩
  | 27 => ⟨S4x8192x8x32, .f32⟩
  | 28 => ⟨S4x8192x8x16, .f32⟩
  | 29 => ⟨S4x8192x8x16, .f32⟩
  | 30 => ⟨S4x8192x8x16, .f32⟩
  | 31 => ⟨S4x8192x8x16, .f32⟩
  | 32 => ⟨S4x8192x8x16, .f32⟩
  | 33 => ⟨S4x8192x8x16, .f32⟩
  | 34 => ⟨S4x8192x8x16, .f32⟩
  | 35 => ⟨S4x8192x8x16, .f32⟩
  | 36 => ⟨S4x8192x8x16, .f32⟩
  | 37 => ⟨S4x8192x8x16, .f32⟩
  | 38 => ⟨S4x8192x8x16, .f32⟩
  | 39 => ⟨S4x8192x8x16, .f32⟩
  | 40 => ⟨S4x8192x8x32, .f32⟩
  | 41 => ⟨S4x8192x8x32, .f32⟩
  | 42 => ⟨S4x8192x8x16, .f32⟩
  | 43 => ⟨S4x8192x8x16, .f32⟩
  | 44 => ⟨S4x8192x8x16, .f32⟩
  | 45 => ⟨S4x8192x8x16, .f32⟩
  | 46 => ⟨S4x8192x8x16, .f32⟩
  | 47 => ⟨S4x8192x8x16, .f32⟩
  | 48 => ⟨S4x8192x8x16, .f32⟩
  | 49 => ⟨S4x8192x8x16, .f32⟩
  | 50 => ⟨S4x8192x8x16, .f32⟩
  | 51 => ⟨S4x8192x8x16, .f32⟩
  | 52 => ⟨S4x8192x8x16, .f32⟩
  | 53 => ⟨S4x8192x8x16, .f32⟩
  | 54 => ⟨S4x8192x8x32, .f32⟩
  | 55 => ⟨S4x8192x8x64, .f32⟩
  | 56 => ⟨S4x8192x512, .f32⟩
  | 57 => ⟨S4x8192x2x64, .f32⟩
  | 58 => ⟨S1x8192x1x16, .f32⟩
  | 59 => ⟨S1x8192x1x16, .f32⟩
  | 60 => ⟨S1x8192x1x16, .f32⟩
  | 61 => ⟨S1x8192x1x16, .f32⟩
  | 62 => ⟨S4x8192x2x32, .f32⟩
  | 63 => ⟨S4x8192x2x16, .f32⟩
  | 64 => ⟨S4x8192x2x16, .f32⟩
  | 65 => ⟨S4x8192x2x16, .f32⟩
  | 66 => ⟨S4x8192x2x16, .f32⟩
  | 67 => ⟨S4x8192x2x16, .f32⟩
  | 68 => ⟨S4x8192x2x16, .f32⟩
  | 69 => ⟨S4x8192x2x16, .f32⟩
  | 70 => ⟨S4x8192x2x16, .f32⟩
  | 71 => ⟨S4x8192x2x16, .f32⟩
  | 72 => ⟨S4x8192x2x16, .f32⟩
  | 73 => ⟨S4x8192x2x16, .f32⟩
  | 74 => ⟨S4x8192x2x16, .f32⟩
  | 75 => ⟨S4x8192x2x32, .f32⟩
  | 76 => ⟨S4x8192x2x32, .f32⟩
  | 77 => ⟨S4x8192x2x16, .f32⟩
  | 78 => ⟨S4x8192x2x16, .f32⟩
  | 79 => ⟨S4x8192x2x16, .f32⟩
  | 80 => ⟨S4x8192x2x16, .f32⟩
  | 81 => ⟨S4x8192x2x16, .f32⟩
  | 82 => ⟨S4x8192x2x16, .f32⟩
  | 83 => ⟨S4x8192x2x16, .f32⟩
  | 84 => ⟨S4x8192x2x16, .f32⟩
  | 85 => ⟨S4x8192x2x16, .f32⟩
  | 86 => ⟨S4x8192x2x16, .f32⟩
  | 87 => ⟨S4x8192x2x16, .f32⟩
  | 88 => ⟨S4x8192x2x16, .f32⟩
  | 89 => ⟨S4x8192x2x32, .f32⟩
  | 90 => ⟨S4x8192x2x64, .f32⟩
  | 91 => ⟨S4x8192x128, .f32⟩
  | 92 => ⟨S4x8192x2304, .f32⟩
  | 93 => ⟨S4x8192x2304, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩

abbrev nD : Nat := 1
abbrev τ : Topo := Topo.v7x

variable {F : FTy → Type} [FloatOps F]
-- ==== Proof.Body.lean ====
/- What one grid point of the attention writes, as a function of the blocks it reads: the vectors `lv` behind the mixing
   weight, the 512 queries `q`, and the two filled scratch arrays, the keys `kx` and the values `vx` (a lane of ones beside
   them). Four blocks of 128 rows, two softmax maps each, three chunks of 2816 keys per map. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable {F : FTy → Type} [FloatOps F] [Named F]

/-- The scores of 128 queries against one chunk of keys, as they come back from the score buffer. -/
def score (q : FVec F S128x128 .bf16) (k : Vec F S2816x128 .bf16) : FVec F S128x2816 .f32 :=
  shapeCast S128x2816 (shapeCast S1x128x2816
    (matmul dot_S128x128_S2816x128_S128x2816_1_1_0_0_n_n none q k (constant S128x2816 .f32 0x00000000#32))
    shapeCasts_S128x2816_S1x128x2816) shapeCasts_S1x128x2816_S128x2816

/-- The running row maximum after a chunk. -/
def stepMax (mx : FVec F S128x1 .f32) (s : FVec F S128x2816 .f32) : FVec F S128x1 .f32 :=
  maximumf mx (shapeCast S128x1 (multiReduction .maximumf [1] S128 s 0xFF800000#32 reduces_S128x2816_S128 (.inl rfl) rfl)
    shapeCasts_S128_S128x1)

/-- The accumulator after a chunk: the old one rescaled from the maximum `mx` to `mx'`, plus the chunk's weights times its values. -/
def stepAcc (mx mx' : FVec F S128x1 .f32) (s : FVec F S128x2816 .f32) (v : Vec F S2816x256 .bf16) (acc : FVec F S128x256 .f32) :
    FVec F S128x256 .f32 :=
  addf (mulf (broadcastTo S128x256 (exp2 (subf mx mx')) broadcasts_S128x1_S128x256) acc)
    (matmul dot_S128x2816_S2816x256_S128x256_1_0_0_1_n_n none
      (truncf .bf16 (exp2 (subf s (broadcastTo S128x2816 mx' broadcasts_S128x1_S128x2816))) bitsLt_bf16_f32) v
      (constant S128x256 .f32 0x00000000#32))

/-- Chunk `0`, `1`, `2` of the keys and of the values. -/
def keys0 (kx : Vec F S8448x128 .bf16) : Vec F S2816x128 .bf16 := View.ld kx (Rect.unit (s := S8448x128) ![0, 0] S2816x128.size inb_S8448x128_S2816x128_0_0)
def keys1 (kx : Vec F S8448x128 .bf16) : Vec F S2816x128 .bf16 := View.ld kx (Rect.unit (s := S8448x128) ![2816, 0] S2816x128.size inb_S8448x128_S2816x128_2816_0)
def keys2 (kx : Vec F S8448x128 .bf16) : Vec F S2816x128 .bf16 := View.ld kx (Rect.unit (s := S8448x128) ![5632, 0] S2816x128.size inb_S8448x128_S2816x128_5632_0)
def vals0 (vx : Vec F S8448x256 .bf16) : Vec F S2816x256 .bf16 := View.ld vx (Rect.unit (s := S8448x256) ![0, 0] S2816x256.size inb_S8448x256_S2816x256_0_0)
def vals1 (vx : Vec F S8448x256 .bf16) : Vec F S2816x256 .bf16 := View.ld vx (Rect.unit (s := S8448x256) ![2816, 0] S2816x256.size inb_S8448x256_S2816x256_2816_0)
def vals2 (vx : Vec F S8448x256 .bf16) : Vec F S2816x256 .bf16 := View.ld vx (Rect.unit (s := S8448x256) ![5632, 0] S2816x256.size inb_S8448x256_S2816x256_5632_0)

/-- The maxima after the chunks. -/
def max0 : FVec F S128x1 .f32 := broadcast S128x1 (Scalar.ofBits .f32 0xF149F2CA#32)
def max1 (q : FVec F S128x128 .bf16) (kx : Vec F S8448x128 .bf16) := stepMax (F := F) max0 (score q (keys0 kx))
def max2 (q : FVec F S128x128 .bf16) (kx : Vec F S8448x128 .bf16) := stepMax (max1 q kx) (score q (keys1 kx))
def max3 (q : FVec F S128x128 .bf16) (kx : Vec F S8448x128 .bf16) := stepMax (max2 q kx) (score q (keys2 kx))

/-- The accumulators after the chunks. -/
def acc1 (q : FVec F S128x128 .bf16) (kx : Vec F S8448x128 .bf16) (vx : Vec F S8448x256 .bf16) :=
  stepAcc max0 (max1 q kx) (score q (keys0 kx)) (vals0 vx) (broadcast S128x256 (Scalar.ofBits .f32 0x00000000#32))
def acc2 (q : FVec F S128x128 .bf16) (kx : Vec F S8448x128 .bf16) (vx : Vec F S8448x256 .bf16) :=
  stepAcc (max1 q kx) (max2 q kx) (score q (keys1 kx)) (vals1 vx) (acc1 q kx vx)
def acc3 (q : FVec F S128x128 .bf16) (kx : Vec F S8448x128 .bf16) (vx : Vec F S8448x256 .bf16) :=
  stepAcc (max2 q kx) (max3 q kx) (score q (keys2 kx)) (vals2 vx) (acc2 q kx vx)

/-- One map's output: the weighted values over the weights' sum (the lane of ones). -/
def mapOut (q : FVec F S128x128 .bf16) (kx : Vec F S8448x128 .bf16) (vx : Vec F S8448x256 .bf16) : FVec F S128x128 .f32 :=
  divf (extractStridedSlice S128x128 ![0, 0] (acc3 q kx vx) slices_S128x256_o0_0_S128x128)
    (broadcastTo S128x128 (extractStridedSlice S128x1 ![0, 128] (acc3 q kx vx) slices_S128x256_o0_128_S128x1) broadcasts_S128x1_S128x128)

/-- The mixing weight. -/
def lamOf (lv : FVec F S4x64 .f32) : FVec F S1x1 .f32 :=
  addf (subf
      (exp (shapeCast S1x1 (multiReduction .add [1] S1
        (mulf (extractStridedSlice S1x64 ![0, 0] lv slices_S4x64_o0_0_S1x64) (extractStridedSlice S1x64 ![1, 0] lv slices_S4x64_o1_0_S1x64))
        0x00000000#32 reduces_S1x64_S1 (.inl rfl) rfl) shapeCasts_S1_S1x1))
      (exp (shapeCast S1x1 (multiReduction .add [1] S1
        (mulf (extractStridedSlice S1x64 ![2, 0] lv slices_S4x64_o2_0_S1x64) (extractStridedSlice S1x64 ![3, 0] lv slices_S4x64_o3_0_S1x64))
        0x00000000#32 reduces_S1x64_S1 (.inl rfl) rfl) shapeCasts_S1_S1x1)))
    (broadcast S1x1 (Scalar.ofBits .f32 0x3E4CCCCD#32))

/-- The difference of the two maps. -/
def mix (lam : FVec F S1x1 .f32) (a b : FVec F S128x128 .f32) : FVec F S128x128 .f32 :=
  subf a (mulf (broadcastTo S128x128 lam broadcasts_S1x1_S128x128) b)

/-- The head's root-mean-square norm and the constant factor after it. -/
def norm (w : FVec F S128x128 .f32) : FVec F S1x128x128 .bf16 :=
  shapeCast S1x128x128 (truncf .bf16 (mulf (mulf w
      (broadcastTo S128x128 (rsqrt (addf (divf
        (shapeCast S128x1 (multiReduction .add [1] S128 (mulf w w) 0x00000000#32 reduces_S128x128_S128 (.inl rfl) rfl) shapeCasts_S128_S128x1)
        (broadcast S128x1 (Scalar.ofBits .f32 0x43000000#32))) (broadcast S128x1 (Scalar.ofBits .f32 0x358637BD#32))))
        broadcasts_S128x1_S128x128))
      (broadcast S128x128 (Scalar.ofBits .f32 0x3F4CCCCD#32))) bitsLt_bf16_f32) shapeCasts_S128x128_S1x128x128

/-- One row block's result. -/
def rowsOut (lv : FVec F S4x64 .f32) (qa qb : FVec F S128x128 .bf16) (kx : Vec F S8448x128 .bf16) (vx : Vec F S8448x256 .bf16) :
    FVec F S1x128x128 .bf16 :=
  norm (mix (lamOf lv) (mapOut qa kx vx) (mapOut qb kx vx))

/-- What a grid point writes. -/
def blockOut (lv : FVec F S4x64 .f32) (q : Vec F S1x512x128 .bf16) (kx : Vec F S8448x128 .bf16) (vx : Vec F S8448x256 .bf16) :
    Vec F S1x512x128 .bf16 :=
  View.canon (Val := Elt F) (s := S1x512x128) (e := .bf16)
    [⟨Rect.unit (s := S1x512x128) ![0, 384, 0] S1x128x128.size inb_S1x512x128_S1x128x128_0_384_0, rowsOut lv (k0_pay16 q) (k0_pay17 q) kx vx⟩,
     ⟨Rect.unit (s := S1x512x128) ![0, 256, 0] S1x128x128.size inb_S1x512x128_S1x128x128_0_256_0, rowsOut lv (k0_pay14 q) (k0_pay15 q) kx vx⟩,
     ⟨Rect.unit (s := S1x512x128) ![0, 128, 0] S1x128x128.size inb_S1x512x128_S1x128x128_0_128_0, rowsOut lv (k0_pay12 q) (k0_pay13 q) kx vx⟩,
     ⟨Rect.unit (s := S1x512x128) ![0, 0, 0] S1x128x128.size inb_S1x512x128_S1x128x128_0_0_0, rowsOut lv (k0_pay10 q) (k0_pay11 q) kx vx⟩]

set_option maxHeartbeats 1000000 in
/-- A point that finds the scratch filled writes `blockOut` of what it finds. -/
theorem out_B (m : (ℓ : Loc nD τ sig) → Buf (Elt F) ℓ) (c : Dev nD) (t : Fin cfg0.N) (h : ¬ t.val % 16 = 0) :
    (outsAt0 m c t.val t.isLt).1 = blockOut (iblk m c 0 t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h]
  generalize (outsAt0 m c (t.val - 1) (Nat.lt_of_le_of_lt (Nat.sub_le _ _) t.isLt)).2.1 = kx
  generalize (outsAt0 m c (t.val - 1) (Nat.lt_of_le_of_lt (Nat.sub_le _ _) t.isLt)).2.2 = vx
  frame_open
  simp (disch := decide) only [↓View.readCov_skip, View.readCov_cons_toLoadRect, View.read_writes_junk_eq_canon, View.canon_cons_unit_lit',
        View.ld_unit_lit', View.readCov_unit_lit', View.readCov_cons_unit_lit', View.readAt_eq_ld,
        Memref.IsWhole.read_unread, read_unread_whole]
  rfl

end Cert.KernelIdeal.Attn
-- ==== Proof.BodyFill.lean ====
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable {F : FTy → Type} [FloatOps F] [Named F]

/-- The keys a filling point leaves: the context's 256 rows, then the latent's 8192. -/
def keysOf (x2 : Vec F S1x256x128 .bf16) (x4 : Vec F S1x8192x128 .bf16) : Vec F S8448x128 .bf16 :=
  View.canon (Val := Elt F) (s := S8448x128) (e := .bf16)
    [⟨Rect.unit (s := S8448x128) ![256, 0] S8192x128.size inb_S8448x128_S8192x128_256_0, k0_pay3 x4⟩,
     ⟨Rect.unit (s := S8448x128) ![0, 0] S256x128.size inb_S8448x128_S256x128_0_0, k0_pay1 x2⟩]

/-- The values a filling point leaves: the same rows in the first 128 lanes, the lane of ones (and zeros) in the last 128. -/
def valsOf (x3 : Vec F S1x256x128 .bf16) (x5 : Vec F S1x8192x128 .bf16) : Vec F S8448x256 .bf16 :=
  View.canon (Val := Elt F) (s := S8448x256) (e := .bf16)
    [⟨Rect.unit (s := S8448x256) ![0, 128] S8448x128.size inb_S8448x256_S8448x128_0_128, k0_pay5⟩,
     ⟨Rect.unit (s := S8448x256) ![256, 0] S8192x128.size inb_S8448x256_S8192x128_256_0, k0_pay4 x5⟩,
     ⟨Rect.unit (s := S8448x256) ![0, 0] S256x128.size inb_S8448x256_S256x128_0_0, k0_pay2 x3⟩]

/-- The filled key scratch, from its stores. -/
theorem stored_keys (x2 : Vec F S1x256x128 .bf16) (x4 : Vec F S1x8192x128 .bf16) :
    View.canon (Val := Elt F)
      [⟨Rect.unit (s := S8448x128) ![256, 0] ![8192, 128] inb_S8448x128_S8192x128_256_0,
          shapeCast S8192x128 (shapeCast S8192x128 x4 shapeCasts_S1x8192x128_S8192x128) shapeCasts_S8192x128_S8192x128⟩,
       ⟨Rect.unit (s := S8448x128) ![0, 0] ![256, 128] inb_S8448x128_S256x128_0_0,
          shapeCast S256x128 (shapeCast S256x128 x2 shapeCasts_S1x256x128_S256x128) shapeCasts_S256x128_S256x128⟩]
      = keysOf x2 x4 := rfl

/-- The filled value scratch, from its stores. -/
theorem stored_vals (x3 : Vec F S1x256x128 .bf16) (x5 : Vec F S1x8192x128 .bf16) :
    View.canon (Val := Elt F)
      [⟨Rect.unit (s := S8448x256) ![0, 128] ![8448, 128] inb_S8448x256_S8448x128_0_128,
          shapeCast S8448x128 (truncf .bf16 (select
            (cmpi .eq (iota .tc S8448x128 32 [1] iota_S8448x128_d1_w32) (broadcast S8448x128 0#32))
            (broadcast S8448x128 (FloatOps.ofBits .f32 1065353216#32)) (broadcast S8448x128 (FloatOps.ofBits .f32 0#32)))
            bitsLt_bf16_f32) shapeCasts_S8448x128_S8448x128⟩,
       ⟨Rect.unit (s := S8448x256) ![256, 0] ![8192, 128] inb_S8448x256_S8192x128_256_0,
          shapeCast S8192x128 (shapeCast S8192x128 x5 shapeCasts_S1x8192x128_S8192x128) shapeCasts_S8192x128_S8192x128⟩,
       ⟨Rect.unit (s := S8448x256) ![0, 0] ![256, 128] inb_S8448x256_S256x128_0_0,
          shapeCast S256x128 (shapeCast S256x128 x3 shapeCasts_S1x256x128_S256x128) shapeCasts_S256x128_S256x128⟩]
      = valsOf x3 x5 := rfl

theorem keys_A (m : (ℓ : Loc nD τ sig) → Buf (Elt F) ℓ) (c : Dev nD) (t : Fin cfg0.N) (h : t.val % 16 = 0) :
    (outsAt0 m c t.val t.isLt).2.1 = keysOf (iblk m c 2 t) (iblk m c 4 t) := by
  rw [outsAt0_A m c t h]
  frame_open
  simp (disch := decide) only [View.read_writes_junk_eq_canon, View.readAt_eq_ld, View.ld_unit_lit', Memref.IsWhole.read_unread, read_unread_whole]
  rfl

theorem vals_A (m : (ℓ : Loc nD τ sig) → Buf (Elt F) ℓ) (c : Dev nD) (t : Fin cfg0.N) (h : t.val % 16 = 0) :
    (outsAt0 m c t.val t.isLt).2.2 = valsOf (iblk m c 3 t) (iblk m c 5 t) := by
  rw [outsAt0_A m c t h]
  frame_open
  simp (disch := decide) only [View.read_writes_junk_eq_canon, View.readAt_eq_ld, View.ld_unit_lit', Memref.IsWhole.read_unread, read_unread_whole]
  rfl

/-- A point that fills the scratch itself writes `blockOut` of what it fills it with. -/
theorem out_A (m : (ℓ : Loc nD τ sig) → Buf (Elt F) ℓ) (c : Dev nD) (t : Fin cfg0.N) (h : t.val % 16 = 0)
    (kx : Vec F S8448x128 .bf16) (hk : keysOf (iblk m c 2 t) (iblk m c 4 t) = kx)
    (vx : Vec F S8448x256 .bf16) (hv : valsOf (iblk m c 3 t) (iblk m c 5 t) = vx) :
    (outsAt0 m c t.val t.isLt).1 = blockOut (iblk m c 0 t) (iblk m c 1 t) kx vx := by
  have ek := (stored_keys (F := F) (iblk m c 2 t) (iblk m c 4 t)).trans hk
  have ev := (stored_vals (F := F) (iblk m c 3 t) (iblk m c 5 t)).trans hv
  rw [outsAt0_A m c t h]
  frame_open
  simp (disch := decide) only [↓View.readCov_skip, View.readCov_cons_toLoadRect, View.read_writes_junk_eq_canon, View.canon_cons_unit_lit',
        View.ld_unit_lit', View.readCov_cons_unit_lit', View.readAt_eq_ld,
        Memref.IsWhole.read_unread, read_unread_whole]
  simp only [View.readCov_eq_canon', ek, ev]
  rfl

/-- Carried scratch: a later point keeps what it finds. -/
theorem keys_B (m : (ℓ : Loc nD τ sig) → Buf (Elt F) ℓ) (c : Dev nD) (t : Fin cfg0.N) (h : ¬ t.val % 16 = 0) :
    (outsAt0 m c t.val t.isLt).2.1 = (outsAt0 m c (t.val - 1) (Nat.lt_of_le_of_lt (Nat.sub_le _ _) t.isLt)).2.1 := by
  rw [outsAt0_B m c t h]; rfl

theorem vals_B (m : (ℓ : Loc nD τ sig) → Buf (Elt F) ℓ) (c : Dev nD) (t : Fin cfg0.N) (h : ¬ t.val % 16 = 0) :
    (outsAt0 m c t.val t.isLt).2.2 = (outsAt0 m c (t.val - 1) (Nat.lt_of_le_of_lt (Nat.sub_le _ _) t.isLt)).2.2 := by
  rw [outsAt0_B m c t h]; rfl

end Cert.KernelIdeal.Attn
-- ==== Proof.Chunk.lean ====
/- One chunk of the attention, entry by entry over the extended reals. -/
module

public import proofs.«01_k».proof.Proof.BodyFill
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

theorem bot_bits : Ideal.ofBits .f32 4286578688#32 = ⊥ := by
  simp [Ideal.ofBits, Ideal.ieee]

theorem named_scale : Named.named (F := Ideal) κ "qscale" (φ := .f32) 1043900987#32 = ((8⁻¹ * (Real.log 2)⁻¹ : ℝ) : EReal) :=
  IdealRules.named_const.ideal_named_scalar _ _ _ _ rfl

theorem score_at (q : FVec Ideal S128x128 .bf16) (k : Vec Ideal S2816x128 .bf16) (i : Fin 128) (j : Fin 2816) :
    score q k (ix2 i j) = ∑ l : Fin 128, q (ix2 i l) * k (ix2 j l) := by
  pointwise [score]

theorem stepMax_at (mx : FVec Ideal S128x1 .f32) (s : FVec Ideal S128x2816 .f32) (i : Fin 128) :
    stepMax mx s (ix2 i 0) = max (mx (ix2 i 0)) (Finset.univ.fold max (⊥ : EReal) fun j : Fin 2816 => s (ix2 i j)) := by
  pointwise [stepMax]
  rw [bot_bits]

theorem stepAcc_at (mx mx' : FVec Ideal S128x1 .f32) (s : FVec Ideal S128x2816 .f32) (v : Vec Ideal S2816x256 .bf16)
    (acc : FVec Ideal S128x256 .f32) (i : Fin 128) (c : Fin 256) :
    stepAcc mx mx' s v acc (ix2 i c) = Ideal.exp2 (mx (ix2 i 0) - mx' (ix2 i 0)) * acc (ix2 i c)
      + ∑ j : Fin 2816, Ideal.exp2 (s (ix2 i j) - mx' (ix2 i 0)) * v (ix2 j c) := by
  pointwise [stepAcc]
  rfl

theorem keys0_at (kx : Vec Ideal S8448x128 .bf16) (j : Fin 2816) (l : Fin 128) :
    keys0 kx (ix2 j l) = kx (ix2 ⟨j.val, by omega⟩ l) := by
  pointwise [keys0]

theorem vals0_at (vx : Vec Ideal S8448x256 .bf16) (j : Fin 2816) (l : Fin 256) :
    vals0 vx (ix2 j l) = vx (ix2 ⟨j.val, by omega⟩ l) := by
  pointwise [vals0]

theorem keys1_at (kx : Vec Ideal S8448x128 .bf16) (j : Fin 2816) (l : Fin 128) :
    keys1 kx (ix2 j l) = kx (ix2 ⟨2816 + j.val, by omega⟩ l) := by
  pointwise [keys1]

theorem vals1_at (vx : Vec Ideal S8448x256 .bf16) (j : Fin 2816) (l : Fin 256) :
    vals1 vx (ix2 j l) = vx (ix2 ⟨2816 + j.val, by omega⟩ l) := by
  pointwise [vals1]

theorem keys2_at (kx : Vec Ideal S8448x128 .bf16) (j : Fin 2816) (l : Fin 128) :
    keys2 kx (ix2 j l) = kx (ix2 ⟨5632 + j.val, by omega⟩ l) := by
  pointwise [keys2]

theorem vals2_at (vx : Vec Ideal S8448x256 .bf16) (j : Fin 2816) (l : Fin 256) :
    vals2 vx (ix2 j l) = vx (ix2 ⟨5632 + j.val, by omega⟩ l) := by
  pointwise [vals2]

theorem mapOut_at (q : FVec Ideal S128x128 .bf16) (kx : Vec Ideal S8448x128 .bf16) (vx : Vec Ideal S8448x256 .bf16) (i l : Fin 128) :
    mapOut q kx vx (ix2 i l) = Ideal.div (acc3 q kx vx (ix2 i ⟨l.val, by omega⟩)) (acc3 q kx vx (ix2 i ⟨128, by omega⟩)) := by
  pointwise [mapOut]

theorem lamOf_at (lv : FVec Ideal S4x64 .f32) :
    lamOf lv (ix2 0 0) = Ideal.exp (∑ d : Fin 64, lv (ix2 0 d) * lv (ix2 1 d)) - Ideal.exp (∑ d : Fin 64, lv (ix2 2 d) * lv (ix2 3 d))
      + Ideal.ofBits .f32 0x3E4CCCCD#32 := by
  pointwise [lamOf]

theorem mix_at (lam : FVec Ideal S1x1 .f32) (a b : FVec Ideal S128x128 .f32) (i l : Fin 128) :
    mix lam a b (ix2 i l) = a (ix2 i l) - lam (ix2 0 0) * b (ix2 i l) := by
  pointwise [mix]

theorem norm_at (w : FVec Ideal S128x128 .f32) (i l : Fin 128) :
    norm w (ix3 0 i l) = w (ix2 i l) * Ideal.rsqrt (Ideal.div (∑ d : Fin 128, w (ix2 i d) * w (ix2 i d)) (Ideal.ofBits .f32 0x43000000#32)
      + Ideal.ofBits .f32 0x358637BD#32) * Ideal.ofBits .f32 0x3F4CCCCD#32 := by
  pointwise [norm]

/-- The lane tests of the two query maps. -/
theorem lane_lt : ∀ l : Fin 128, IntOp.cmpi .slt (BitVec.ofNat 32 l.val) 64#32 = if l.val < 64 then 1#1 else 0#1 := by decide
theorem lane_ge : ∀ l : Fin 128, IntOp.cmpi .sge (BitVec.ofNat 32 l.val) 64#32 = if l.val < 64 then 0#1 else 1#1 := by decide

theorem q10_at (q : Vec Ideal S1x512x128 .bf16) (i l : Fin 128) :
    k0_pay10 q (ix2 i l) = if l.val < 64 then q (ix3 0 ⟨i.val, by omega⟩ l) * ((8⁻¹ * (Real.log 2)⁻¹ : ℝ) : EReal) else 0 := by
  pointwise [k0_pay10, k0_pay8, k0_pay6, k0_pay7, named_scale]
  rw [lane_lt]
  split <;> rfl

theorem q11_at (q : Vec Ideal S1x512x128 .bf16) (i l : Fin 128) :
    k0_pay11 q (ix2 i l) = if l.val < 64 then 0 else q (ix3 0 ⟨i.val, by omega⟩ l) * ((8⁻¹ * (Real.log 2)⁻¹ : ℝ) : EReal) := by
  pointwise [k0_pay11, k0_pay9, k0_pay6, k0_pay7, named_scale]
  rw [lane_ge]
  split <;> rfl

theorem q12_at (q : Vec Ideal S1x512x128 .bf16) (i l : Fin 128) :
    k0_pay12 q (ix2 i l) = if l.val < 64 then q (ix3 0 ⟨128 + i.val, by omega⟩ l) * ((8⁻¹ * (Real.log 2)⁻¹ : ℝ) : EReal) else 0 := by
  pointwise [k0_pay12, k0_pay8, k0_pay6, k0_pay7, named_scale]
  rw [lane_lt]
  split <;> rfl

theorem q13_at (q : Vec Ideal S1x512x128 .bf16) (i l : Fin 128) :
    k0_pay13 q (ix2 i l) = if l.val < 64 then 0 else q (ix3 0 ⟨128 + i.val, by omega⟩ l) * ((8⁻¹ * (Real.log 2)⁻¹ : ℝ) : EReal) := by
  pointwise [k0_pay13, k0_pay9, k0_pay6, k0_pay7, named_scale]
  rw [lane_ge]
  split <;> rfl

theorem q14_at (q : Vec Ideal S1x512x128 .bf16) (i l : Fin 128) :
    k0_pay14 q (ix2 i l) = if l.val < 64 then q (ix3 0 ⟨256 + i.val, by omega⟩ l) * ((8⁻¹ * (Real.log 2)⁻¹ : ℝ) : EReal) else 0 := by
  pointwise [k0_pay14, k0_pay8, k0_pay6, k0_pay7, named_scale]
  rw [lane_lt]
  split <;> rfl

theorem q15_at (q : Vec Ideal S1x512x128 .bf16) (i l : Fin 128) :
    k0_pay15 q (ix2 i l) = if l.val < 64 then 0 else q (ix3 0 ⟨256 + i.val, by omega⟩ l) * ((8⁻¹ * (Real.log 2)⁻¹ : ℝ) : EReal) := by
  pointwise [k0_pay15, k0_pay9, k0_pay6, k0_pay7, named_scale]
  rw [lane_ge]
  split <;> rfl

theorem q16_at (q : Vec Ideal S1x512x128 .bf16) (i l : Fin 128) :
    k0_pay16 q (ix2 i l) = if l.val < 64 then q (ix3 0 ⟨384 + i.val, by omega⟩ l) * ((8⁻¹ * (Real.log 2)⁻¹ : ℝ) : EReal) else 0 := by
  pointwise [k0_pay16, k0_pay8, k0_pay6, k0_pay7, named_scale]
  rw [lane_lt]
  split <;> rfl

theorem q17_at (q : Vec Ideal S1x512x128 .bf16) (i l : Fin 128) :
    k0_pay17 q (ix2 i l) = if l.val < 64 then 0 else q (ix3 0 ⟨384 + i.val, by omega⟩ l) * ((8⁻¹ * (Real.log 2)⁻¹ : ℝ) : EReal) := by
  pointwise [k0_pay17, k0_pay9, k0_pay6, k0_pay7, named_scale]
  rw [lane_ge]
  split <;> rfl

/-- Off its rectangle the last store changes nothing. -/
theorem canon_skip {S : Shape} {e : EltTy} {off size : Fin S.rank → Nat} (inb : ∀ a, off a + size a ≤ S.size a)
    (w : (Rect.unit off size inb).shape.Idx → Elt Ideal e) (L : List (View.Piece (Elt Ideal) S e)) (y : S.Idx) (a : Fin S.rank)
    (h : (y a).val < off a ∨ off a + size a ≤ (y a).val) :
    View.canon (⟨Rect.unit off size inb, w⟩ :: L) y = View.canon L y := by
  apply View.canon_cons_of_not_mem
  intro hm
  obtain ⟨x, rfl⟩ := (Rect.unit off size inb).exists_idx_of_mem hm
  have e1 : ((Rect.unit off size inb).idx x a).val = off a + 1 * (x a).val := rfl
  have e2 : (x a).val < size a := (x a).isLt
  omega

/-- On its rectangle the last store is what is read. -/
theorem canon_take {S : Shape} {e : EltTy} {off size : Fin S.rank → Nat} (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a).val = off a + (x a).val) :
    View.canon (⟨Rect.unit off size inb, w⟩ :: L) y = w x := by
  have e1 : y = (Rect.unit off size inb).emb x := by
    funext a
    apply Fin.ext
    have e1 : ((Rect.unit off size inb).emb x a).val = off a + 1 * (x a).val := rfl
    rw [e1, h a, Nat.one_mul]
  rw [e1, View.canon_cons_emb]

theorem keysOf_at (x2 : Vec Ideal S1x256x128 .bf16) (x4 : Vec Ideal S1x8192x128 .bf16) (j : Fin 8448) (l : Fin 128) :
    keysOf x2 x4 (ix2 j l) = if h : j.val < 256 then x2 (ix3 0 ⟨j.val, h⟩ l) else x4 (ix3 0 ⟨j.val - 256, by omega⟩ l) := by
  unfold keysOf
  split
  · rename_i h
    refine (canon_skip _ _ _ _ 0 (Or.inl h)).trans ?_
    refine (canon_take _ _ _ _ (ix2 (⟨j.val, h⟩ : Fin 256) l) ?_).trans ?_
    · intro a; fin_cases a <;> simp
    · pointwise [k0_pay1]
  · rename_i h
    refine (canon_take _ _ _ _ (ix2 (⟨j.val - 256, by omega⟩ : Fin 8192) l) ?_).trans ?_
    · intro a; fin_cases a <;> simp <;> omega
    · pointwise [k0_pay3]

theorem valsOf_at (x3 : Vec Ideal S1x256x128 .bf16) (x5 : Vec Ideal S1x8192x128 .bf16) (j : Fin 8448) (l : Fin 128) :
    valsOf x3 x5 (ix2 j ⟨l.val, by omega⟩) = if h : j.val < 256 then x3 (ix3 0 ⟨j.val, h⟩ l) else x5 (ix3 0 ⟨j.val - 256, by omega⟩ l) := by
  unfold valsOf
  refine (canon_skip _ _ _ _ 1 (Or.inl l.isLt)).trans ?_
  split
  · rename_i h
    refine (canon_skip _ _ _ _ 0 (Or.inl h)).trans ?_
    refine (canon_take _ _ _ _ (ix2 (⟨j.val, h⟩ : Fin 256) l) ?_).trans ?_
    · intro a; fin_cases a <;> simp
    · pointwise [k0_pay2]
  · rename_i h
    refine (canon_take _ _ _ _ (ix2 (⟨j.val - 256, by omega⟩ : Fin 8192) l) ?_).trans ?_
    · intro a; fin_cases a <;> simp <;> omega
    · pointwise [k0_pay4]

theorem valsOf_one (x3 : Vec Ideal S1x256x128 .bf16) (x5 : Vec Ideal S1x8192x128 .bf16) (j : Fin 8448) :
    valsOf x3 x5 (ix2 j ⟨128, by omega⟩) = 1 := by
  unfold valsOf
  refine (canon_take _ _ _ _ (ix2 j (0 : Fin 128)) ?_).trans ?_
  · intro a; fin_cases a <;> simp
  · pointwise [k0_pay5]

end Cert.KernelIdeal.Attn
-- ==== Proof.Soft.lean ====
/- Finite extended reals: sums, running maxima, and the softmax quotient, whatever the shift. -/
module

public import Idealize.ShloMosaic.PureOps.Ideal
public import Idealize.ShloMosaic.PureOps.Ideal.Laws
public import Idealize.ShloMosaic.Lib.Pointwise.Tactic

@[expose] public section

set_option maxRecDepth 16384

noncomputable section

open Idealize.ShloMosaic

namespace Attn.Soft

theorem coe_sum {n : ℕ} (f : Fin n → ℝ) : ((∑ j, f j : ℝ) : EReal) = ∑ j, (f j : EReal) := by
  induction n with
  | zero => simp
  | succ n ih => rw [Fin.sum_univ_succ, Fin.sum_univ_succ, EReal.coe_add, ih]

/-- The maximum of finitely many reals, taken from `⊥`, is a real. -/
theorem fold_max_real {n : ℕ} (hn : 0 < n) (f : Fin n → ℝ) :
    ∃ M : ℝ, Finset.univ.fold max (⊥ : EReal) (fun j => (f j : EReal)) = (M : EReal) := by
  have : (Finset.univ : Finset (Fin n)).Nonempty := ⟨⟨0, hn⟩, Finset.mem_univ _⟩
  obtain ⟨i, -, hi⟩ := Finset.exists_mem_eq_sup _ this (fun j => (f j : EReal))
  exact ⟨f i, hi⟩

theorem max_real (a b : ℝ) : ∃ M : ℝ, max (a : EReal) (b : EReal) = (M : EReal) := by
  rcases max_choice (a : EReal) (b : EReal) with h | h
  · exact ⟨a, h⟩
  · exact ⟨b, h⟩

theorem sum_thirds {M : Type} [AddCommMonoid M] (f : Fin 8448 → M) :
    ∑ j, f j = (∑ j : Fin 2816, f ⟨j.val, by omega⟩) + (∑ j : Fin 2816, f ⟨2816 + j.val, by omega⟩)
      + ∑ j : Fin 2816, f ⟨5632 + j.val, by omega⟩ := by
  have h1 : ∑ j : Fin (5632 + 2816), f j = _ := Fin.sum_univ_add (a := 5632) (b := 2816) f
  have h2 : ∑ j : Fin (2816 + 2816), f (Fin.castAdd 2816 j) = _ := Fin.sum_univ_add (a := 2816) (b := 2816) fun j => f (Fin.castAdd 2816 j)
  exact h1.trans (congrArg (· + _) h2)

theorem exp2_sub (a b : ℝ) : Ideal.exp2 ((a : EReal) - (b : EReal)) = (((2 : ℝ) ^ (-b) * (2 : ℝ) ^ a : ℝ) : EReal) := by
  rw [← EReal.coe_sub, Ideal.exp2_coe]
  congr 1
  show (2 : ℝ) ^ (a - b) = _
  rw [← Real.rpow_add (by norm_num)]
  congr 1; ring

/-- One chunk of the running softmax: a total `A` kept relative to the maximum `M` becomes the total with the chunk added,
    relative to `M'`. -/
theorem chunk {n : ℕ} (M M' A : ℝ) (s v : Fin n → ℝ) :
    Ideal.exp2 ((M : EReal) - (M' : EReal)) * (((2 : ℝ) ^ (-M) * A : ℝ) : EReal)
        + ∑ j, Ideal.exp2 ((s j : EReal) - (M' : EReal)) * (v j : EReal)
      = (((2 : ℝ) ^ (-M') * (A + ∑ j, (2 : ℝ) ^ s j * v j) : ℝ) : EReal) := by
  have h1 : ∀ j, Ideal.exp2 ((s j : EReal) - (M' : EReal)) * (v j : EReal) = (((2 : ℝ) ^ (-M') * ((2 : ℝ) ^ s j * v j) : ℝ) : EReal) := by
    intro j; rw [exp2_sub, ← EReal.coe_mul]; congr 1; ring
  rw [Finset.sum_congr rfl fun j _ => h1 j, ← coe_sum, exp2_sub, ← EReal.coe_mul, ← EReal.coe_add, ← Finset.mul_sum]
  congr 1
  have h2 : (2 : ℝ) ^ M * (2 : ℝ) ^ (-M) = 1 := by rw [← Real.rpow_add (by norm_num)]; simp
  calc _ = (2 : ℝ) ^ (-M') * (((2 : ℝ) ^ M * (2 : ℝ) ^ (-M)) * A) + (2 : ℝ) ^ (-M') * ∑ j, (2 : ℝ) ^ s j * v j := by ring
    _ = _ := by rw [h2]; ring

theorem div_real (a b : ℝ) (hb : b ≠ 0) : Ideal.div (a : EReal) (b : EReal) = ((a / b : ℝ) : EReal) := by
  rw [Ideal.div_coe hb, ← EReal.coe_mul]; congr 1; ring

/-- A quotient of two totals kept relative to one maximum. -/
theorem quotient (M N D : ℝ) (hD : D ≠ 0) :
    Ideal.div (((2 : ℝ) ^ (-M) * N : ℝ) : EReal) (((2 : ℝ) ^ (-M) * D : ℝ) : EReal) = ((N / D : ℝ) : EReal) := by
  have h : (2 : ℝ) ^ (-M) ≠ 0 := (Real.rpow_pos_of_pos (by norm_num) _).ne'
  rw [div_real _ _ (mul_ne_zero h hD), mul_div_mul_left _ _ h]

/-- The reference's weights: exponentials shifted by any real `M`, over their sum. -/
theorem weight {n : ℕ} (hn : 0 < n) (M : ℝ) (s : Fin n → ℝ) (j : Fin n) :
    Ideal.div (Ideal.exp ((s j : EReal) - (M : EReal))) (∑ i, Ideal.exp ((s i : EReal) - (M : EReal)))
      = ((Real.exp (s j) / ∑ i, Real.exp (s i) : ℝ) : EReal) := by
  have h1 : ∀ i, Ideal.exp ((s i : EReal) - (M : EReal)) = ((Real.exp (-M) * Real.exp (s i) : ℝ) : EReal) := by
    intro i; rw [← EReal.coe_sub, Ideal.exp_coe, ← Real.exp_add]; congr 2; ring
  have hp : (0 : ℝ) < ∑ i, Real.exp (s i) := Finset.sum_pos (fun i _ => Real.exp_pos _) ⟨⟨0, hn⟩, Finset.mem_univ _⟩
  rw [h1, Finset.sum_congr rfl fun i _ => h1 i, ← coe_sum, ← Finset.mul_sum,
    div_real _ _ (mul_ne_zero (Real.exp_pos _).ne' hp.ne'), mul_div_mul_left _ _ (Real.exp_pos _).ne']

/-- `2` to a score scaled by `1 / (8 ln 2)` is `e` to the score over `8`. -/
theorem base_change (x : ℝ) : (2 : ℝ) ^ (x * (8⁻¹ * (Real.log 2)⁻¹)) = Real.exp (x * 8⁻¹) := by
  rw [Real.rpow_def_of_pos (by norm_num)]
  congr 1
  have : Real.log 2 ≠ 0 := (Real.log_pos (by norm_num)).ne'
  field_simp

end Attn.Soft
-- ==== Proof.Map.lean ====
/- One softmax map of a row of queries: after the three chunks, the weighted mean of the values with weights `2` to the scores. -/
module

public import proofs.«01_k».proof.Proof.Chunk
public import proofs.«01_k».proof.Proof.Soft

@[expose] public section

set_option maxRecDepth 16384

noncomputable section

open Idealize.ShloMosaic Idealize.ShloMosaic.TcCoe Idealize.SL.Sem

namespace Cert.KernelIdeal.Attn

open Cert.KernelIdeal Cert.KernelIdeal.Gen

theorem start_real : ∃ M : ℝ, Ideal.ofBits .f32 0xF149F2CA#32 = (M : EReal) := by
  have h : ∃ M : ℝ, Ideal.ofBits .f32 0xF149F2CA#32 = (M : EReal) := by
    simp only [Ideal.ofBits, Ideal.ieee]
    norm_num
    exact ⟨_, rfl⟩
  exact h

theorem max0_at (i : Fin 128) : max0 (F := Ideal) (ix2 i 0) = Ideal.ofBits .f32 0xF149F2CA#32 := by
  pointwise [max0]

theorem stepMax_real (mx : FVec Ideal S128x1 .f32) (s : FVec Ideal S128x2816 .f32) (i : Fin 128) (M : ℝ) (f : Fin 2816 → ℝ)
    (hm : mx (ix2 i 0) = (M : EReal)) (hs : ∀ j, s (ix2 i j) = (f j : EReal)) : ∃ M' : ℝ, stepMax mx s (ix2 i 0) = (M' : EReal) := by
  obtain ⟨T, hT⟩ := Attn.Soft.fold_max_real (n := 2816) (by omega) f
  rw [stepMax_at, hm, funext hs, hT]
  exact Attn.Soft.max_real M T

theorem stepAcc_real (mx mx' : FVec Ideal S128x1 .f32) (s : FVec Ideal S128x2816 .f32) (v : Vec Ideal S2816x256 .bf16)
    (acc : FVec Ideal S128x256 .f32) (i : Fin 128) (c : Fin 256) (M M' A : ℝ) (f g : Fin 2816 → ℝ)
    (hm : mx (ix2 i 0) = (M : EReal)) (hm' : mx' (ix2 i 0) = (M' : EReal)) (hs : ∀ j, s (ix2 i j) = (f j : EReal))
    (hv : ∀ j, v (ix2 j c) = (g j : EReal)) (ha : acc (ix2 i c) = (((2 : ℝ) ^ (-M) * A : ℝ) : EReal)) :
    stepAcc mx mx' s v acc (ix2 i c) = (((2 : ℝ) ^ (-M') * (A + ∑ j, (2 : ℝ) ^ f j * g j) : ℝ) : EReal) := by
  rw [stepAcc_at, hm, hm', ha]
  refine Eq.trans ?_ (Attn.Soft.chunk M M' A f g)
  exact congrArg _ (Finset.sum_congr rfl fun j _ => by rw [hs, hv])

theorem mapOut_real (q : FVec Ideal S128x128 .bf16) (kx : Vec Ideal S8448x128 .bf16) (vx : Vec Ideal S8448x256 .bf16) (i l : Fin 128)
    (S V : Fin 8448 → ℝ) (hs : ∀ j, ∑ d : Fin 128, q (ix2 i d) * kx (ix2 j d) = (S j : EReal))
    (hv : ∀ j, vx (ix2 j ⟨l.val, by omega⟩) = (V j : EReal)) (h1 : ∀ j, vx (ix2 j ⟨128, by omega⟩) = (1 : EReal)) :
    mapOut q kx vx (ix2 i l) = (((∑ j, (2 : ℝ) ^ S j * V j) / ∑ j, (2 : ℝ) ^ S j : ℝ) : EReal) := by
  have s0 : ∀ j, score q (keys0 kx) (ix2 i j) = ((S ⟨j.val, by omega⟩ : ℝ) : EReal) := fun j => by
    rw [score_at, ← hs]; exact Finset.sum_congr rfl fun d _ => by rw [keys0_at]
  have s1 : ∀ j, score q (keys1 kx) (ix2 i j) = ((S ⟨2816 + j.val, by omega⟩ : ℝ) : EReal) := fun j => by
    rw [score_at, ← hs]; exact Finset.sum_congr rfl fun d _ => by rw [keys1_at]
  have s2 : ∀ j, score q (keys2 kx) (ix2 i j) = ((S ⟨5632 + j.val, by omega⟩ : ℝ) : EReal) := fun j => by
    rw [score_at, ← hs]; exact Finset.sum_congr rfl fun d _ => by rw [keys2_at]
  obtain ⟨M0, m0⟩ := start_real
  have m0 : max0 (F := Ideal) (ix2 i 0) = (M0 : EReal) := (max0_at i).trans m0
  obtain ⟨M1, m1⟩ := stepMax_real _ _ i M0 _ m0 s0
  obtain ⟨M2, m2⟩ := stepMax_real _ _ i M1 _ m1 s1
  obtain ⟨M3, m3⟩ := stepMax_real _ _ i M2 _ m2 s2
  have key : ∀ (c : Fin 256) (G : Fin 8448 → ℝ), (∀ j, vx (ix2 j c) = (G j : EReal)) →
      acc3 q kx vx (ix2 i c) = (((2 : ℝ) ^ (-M3) * ∑ j, (2 : ℝ) ^ S j * G j : ℝ) : EReal) := by
    intro c G hG
    have a0 : broadcast S128x256 (Scalar.ofBits (F := Ideal) .f32 0x00000000#32) (ix2 i c) = (((2 : ℝ) ^ (-M0) * 0 : ℝ) : EReal) := by
      rw [mul_zero, EReal.coe_zero]; pointwise
    have a1 := stepAcc_real _ _ _ (vals0 vx) _ i c M0 M1 0 _ (fun j => G ⟨j.val, by omega⟩) m0 m1 s0 (fun j => by rw [vals0_at, hG]) a0
    have a2 := stepAcc_real _ _ _ (vals1 vx) _ i c M1 M2 _ _ (fun j => G ⟨2816 + j.val, by omega⟩) m1 m2 s1 (fun j => by rw [vals1_at, hG]) a1
    have a3 := stepAcc_real _ _ _ (vals2 vx) _ i c M2 M3 _ _ (fun j => G ⟨5632 + j.val, by omega⟩) m2 m3 s2 (fun j => by rw [vals2_at, hG]) a2
    rw [Attn.Soft.sum_thirds, ← zero_add (∑ j : Fin 2816, (2 : ℝ) ^ S ⟨j.val, _⟩ * G ⟨j.val, _⟩)]
    exact a3
  have hD : (0 : ℝ) < ∑ j, (2 : ℝ) ^ S j :=
    Finset.sum_pos (fun j _ => Real.rpow_pos_of_pos (by norm_num) _) ⟨⟨0, by omega⟩, Finset.mem_univ _⟩
  rw [mapOut_at, key _ V hv, key _ (fun _ => 1) (fun j => (h1 j).trans EReal.coe_one.symm)]
  simp only [mul_one]
  exact Attn.Soft.quotient M3 _ _ hD.ne'

end Cert.KernelIdeal.Attn
-- ==== Proof.Ref.lean ====
/- The reference's result, step by step, entry by entry over the extended reals. -/
module

public import proofs.«01_k».proof.Proof.Gen.ReferenceIdeal.Run
public import Idealize.ShloMosaic.Lib.Pipeline.ValueKit
public import proofs.«01_k».proof.Proof.Soft

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- Context and latent rows, one after the other. -/
def rows (c : FVec Ideal S4x256x512 .f32) (p : FVec Ideal S4x8192x512 .f32) : FVec Ideal S4x8448x512 .f32 :=
  concatenate S4x8448x512 1 [⟨S4x256x512, c⟩, ⟨S4x8192x512, p⟩] concatenates_S4x256x512_S4x8192x512_S4x8448x512_d1

/-- The scaled scores of every query against every key, for every head and map. -/
def scores (p : FVec Ideal S4x8192x2304 .f32) (c : FVec Ideal S4x256x2304 .f32) : FVec Ideal S4x4x2x8192x8448 .f32 :=
  mulf (Host.dotGeneral dot_S4x8192x4x2x64_S4x8448x4x2x64_S4x4x2x8192x8448_4_4_1_1_023_023 none
    (shapeCast S4x8192x4x2x64 (extractStridedSlice S4x8192x512 ![0, 0, 0] p slices_S4x8192x2304_S4x8192x512_0_0_0) shapeCasts_S4x8192x512_S4x8192x4x2x64)
    (shapeCast S4x8448x4x2x64 (rows (extractStridedSlice S4x256x512 ![0, 0, 512] c slices_S4x256x2304_S4x256x512_0_0_512)
      (extractStridedSlice S4x8192x512 ![0, 0, 512] p slices_S4x8192x2304_S4x8192x512_0_0_512)) shapeCasts_S4x8448x512_S4x8448x4x2x64))
    (broadcastInDim S4x4x2x8192x8448 ![] bcast_S_S4x4x2x8192x8448 (constant S_ .f32 0x3E000000#32))

/-- The values of every head. -/
def values (p : FVec Ideal S4x8192x2304 .f32) (c : FVec Ideal S4x256x2304 .f32) : FVec Ideal S4x8448x4x128 .f32 :=
  shapeCast S4x8448x4x128 (rows (extractStridedSlice S4x256x512 ![0, 0, 1024] c slices_S4x256x2304_S4x256x512_0_0_1024)
    (extractStridedSlice S4x8192x512 ![0, 0, 1024] p slices_S4x8192x2304_S4x8192x512_0_0_1024)) shapeCasts_S4x8448x512_S4x8448x4x128

/-- The largest score of each row. -/
def top (s : FVec Ideal S4x4x2x8192x8448 .f32) : FVec Ideal S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8448_S4x4x2x8192_d4 h_S_)

/-- The exponentials of the scores below their row's largest. -/
def expo (s : FVec Ideal S4x4x2x8192x8448 .f32) : FVec Ideal S4x4x2x8192x8448 .f32 :=
  Host.exp (subf s (broadcastInDim S4x4x2x8192x8448 ![0, 1, 2, 3, 4] bcast_S4x4x2x8192x1_S4x4x2x8192x8448_0_1_2_3_4
    (broadcastInDim S4x4x2x8192x1 ![0, 1, 2, 3] bcast_S4x4x2x8192_S4x4x2x8192x1_0_1_2_3 (top s))))

/-- The weights: the softmax of each row. -/
def weights (s : FVec Ideal S4x4x2x8192x8448 .f32) : FVec Ideal S4x4x2x8192x8448 .f32 :=
  Host.divf (expo s) (broadcastInDim S4x4x2x8192x8448 ![0, 1, 2, 3, 4] bcast_S4x4x2x8192x1_S4x4x2x8192x8448_0_1_2_3_4
    (broadcastInDim S4x4x2x8192x1 ![0, 1, 2, 3] bcast_S4x4x2x8192_S4x4x2x8192x1_0_1_2_3
      (Host.reduceAdd (expo s) (constant S_ .f32 0x00000000#32) reducesTo_S4x4x2x8192x8448_S4x4x2x8192_d4 h_S_)))

/-- The mixing weight. -/
def lam (a : FVec Ideal S4x64 .f32) : FVec Ideal S_ .f32 :=
  addf (subf
      (Host.exp (Host.reduceAdd (mulf (shapeCast S64 (extractStridedSlice S1x64 ![0, 0] a slices_S4x64_S1x64_0_0) shapeCasts_S1x64_S64)
        (shapeCast S64 (extractStridedSlice S1x64 ![1, 0] a slices_S4x64_S1x64_1_0) shapeCasts_S1x64_S64))
        (constant S_ .f32 0x00000000#32) reducesTo_S64_S_d0 h_S_))
      (Host.exp (Host.reduceAdd (mulf (shapeCast S64 (extractStridedSlice S1x64 ![2, 0] a slices_S4x64_S1x64_2_0) shapeCasts_S1x64_S64)
        (shapeCast S64 (extractStridedSlice S1x64 ![3, 0] a slices_S4x64_S1x64_3_0) shapeCasts_S1x64_S64))
        (constant S_ .f32 0x00000000#32) reducesTo_S64_S_d0 h_S_)))
    (constant S_ .f32 0x3E4CCCCD#32)

/-- The first map's weights less `l` times the second's. -/
def mixed (l : FVec Ideal S_ .f32) (w : FVec Ideal S4x4x2x8192x8448 .f32) : FVec Ideal S4x4x8192x8448 .f32 :=
  subf (shapeCast S4x4x8192x8448 (extractStridedSlice S4x4x1x8192x8448 ![0, 0, 0, 0, 0] w slices_S4x4x2x8192x8448_S4x4x1x8192x8448_0_0_0_0_0) shapeCasts_S4x4x1x8192x8448_S4x4x8192x8448)
    (mulf (broadcastInDim S4x4x8192x8448 ![] bcast_S_S4x4x8192x8448 l)
      (shapeCast S4x4x8192x8448 (extractStridedSlice S4x4x1x8192x8448 ![0, 0, 1, 0, 0] w slices_S4x4x2x8192x8448_S4x4x1x8192x8448_0_0_1_0_0) shapeCasts_S4x4x1x8192x8448_S4x4x8192x8448))

/-- The mixed weights times the values. -/
def heads (v : FVec Ideal S4x8448x4x128 .f32) (w : FVec Ideal S4x4x8192x8448 .f32) : FVec Ideal S4x8192x4x128 .f32 :=
  transpose S4x8192x4x128 [0, 3, 1, 2] (Host.dotGeneral dot_S4x8448x4x128_S4x4x8192x8448_S4x4x128x8192_1_3_3_2_02_01 none v w)
    transposes_S4x4x128x8192_S4x8192x4x128_0_3_1_2

/-- The root-mean-square norm of each head and the factor after it. -/
def normed (x : FVec Ideal S4x8192x4x128 .f32) : FVec Ideal S4x8192x4x128 .f32 :=
  mulf (mulf x (broadcastInDim S4x8192x4x128 ![0, 1, 2, 3] bcast_S4x8192x4x1_S4x8192x4x128_0_1_2_3
      (Host.rsqrt (addf (Host.divf (broadcastInDim S4x8192x4x1 ![0, 1, 2] bcast_S4x8192x4_S4x8192x4x1_0_1_2
          (Host.reduceAdd (mulf x x) (constant S_ .f32 0x00000000#32) reducesTo_S4x8192x4x128_S4x8192x4_d3 h_S_))
          (broadcastInDim S4x8192x4x1 ![] bcast_S_S4x8192x4x1 (constant S_ .f32 0x43000000#32)))
        (broadcastInDim S4x8192x4x1 ![] bcast_S_S4x8192x4x1 (constant S_ .f32 0x358637BD#32))))))
    (broadcastInDim S4x8192x4x128 ![] bcast_S_S4x8192x4x128 (constant S_ .f32 0x3F4CCCCD#32))

/-- The whole reference. -/
def result (a : FVec Ideal S4x64 .f32) (p : FVec Ideal S4x8192x2304 .f32) (c : FVec Ideal S4x256x2304 .f32) : FVec Ideal S4x8192x512 .bf16 :=
  truncf .bf16 (shapeCast S4x8192x512 (normed (heads (values p c) (mixed (lam a) (weights (scores p c))))) shapeCasts_S4x8192x4x128_S4x8192x512) bitsLt_bf16_f32

theorem res_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) := rfl

theorem rows_at (c : FVec Ideal S4x256x512 .f32) (p : FVec Ideal S4x8192x512 .f32) (b : Fin 4) (j : Fin 8448) (x : Fin 512) :
    rows c p (ix3 b j x) = if h : j.val < 256 then c (ix3 b ⟨j.val, h⟩ x) else p (ix3 b ⟨j.val - 256, by omega⟩ x) := by
  pointwise [rows]

theorem scores_at (p : FVec Ideal S4x8192x2304 .f32) (c : FVec Ideal S4x256x2304 .f32) (b h : Fin 4) (e : Fin 2) (t : Fin 8192) (j : Fin 8448) :
    scores p c (ix5 b h e t j) = (∑ d : Fin 64, p (ix3 b t ⟨h.val * 128 + e.val * 64 + d.val, by omega⟩)
      * (if hj : j.val < 256 then c (ix3 b ⟨j.val, hj⟩ ⟨512 + (h.val * 128 + e.val * 64 + d.val), by omega⟩)
          else p (ix3 b ⟨j.val - 256, by omega⟩ ⟨512 + (h.val * 128 + e.val * 64 + d.val), by omega⟩))) * Ideal.ofBits .f32 0x3E000000#32 := by
  pointwise [scores, rows_at]

theorem values_at (p : FVec Ideal S4x8192x2304 .f32) (c : FVec Ideal S4x256x2304 .f32) (b h : Fin 4) (l : Fin 128) (j : Fin 8448) :
    values p c (ix4 b j h l) =
      (if hj : j.val < 256 then c (ix3 b ⟨j.val, hj⟩ ⟨1024 + (h.val * 128 + l.val), by omega⟩)
          else p (ix3 b ⟨j.val - 256, by omega⟩ ⟨1024 + (h.val * 128 + l.val), by omega⟩)) := by
  pointwise [values, rows_at]

/-- A maximum over one axis of real entries, taken from `⊥`, is real. -/
theorem reduce_real {s t u : Shape} {a : Fin s.rank} (x : s.Idx → EReal) (init : u.Idx → EReal) (h' : s.ReducesTo [a] t) (h : s.Reduces [a] t)
    (hu : 0 < u.numel) (hi : init (Shape.Idx.first hu) = ⊥) (hp : 0 < s.size a) (hx : ∀ i, ∃ r : ℝ, x i = (r : EReal)) (j : t.Idx) :
    ∃ M : ℝ, Host.reduce (FloatOps.maximumf (F := Ideal) (φ := .f32)) x init h' hu j = (M : EReal) := by
  choose f hf using hx
  obtain ⟨M, hM⟩ := Attn.Soft.fold_max_real hp (fun k => f (h.lift j k))
  refine ⟨M, ?_⟩
  rw [Host.reduce_eq_fold_single _ x init h' h hu j, hi, ← hM]
  exact congrArg (fun g => Finset.univ.fold max (⊥ : EReal) g) (funext fun k => hf _)

theorem reduces_top : S4x4x2x8192x8448.Reduces [4] S4x4x2x8192 := by decide

theorem bot_bits : Ideal.ofBits .f32 0xFF800000#32 = ⊥ := by simp [Ideal.ofBits, Ideal.ieee]

theorem max_bot_left (b x : FVec Ideal S4x4x2x8192 .f32) (i : S4x4x2x8192.Idx) (h : b i = (⊥ : EReal)) : maximumf b x i = x i := by
  show max (b i : EReal) (x i) = x i
  rw [h]; exact max_eq_right bot_le

theorem floor_at (i : S4x4x2x8192.Idx) :
    (broadcastInDim S4x4x2x8192 ![] bcast_S_S4x4x2x8192 (constant S_ .f32 0xFF800000#32) : FVec Ideal S4x4x2x8192 .f32) i = (⊥ : EReal) := by
  pointwise [bot_bits]

/-- Real scores have a real row maximum. -/
theorem top_real (s : FVec Ideal S4x4x2x8192x8448 .f32) (hs : ∀ i, ∃ r : ℝ, s i = (r : EReal)) (i : S4x4x2x8192.Idx) :
    ∃ M : ℝ, top s i = (M : EReal) := by
  obtain ⟨M, hM⟩ := reduce_real s (constant (F := Ideal) S_ .f32 0xFF800000#32) reducesTo_S4x4x2x8192x8448_S4x4x2x8192_d4 reduces_top h_S_
    bot_bits (by decide) hs i
  refine ⟨M, ?_⟩
  unfold top
  rw [max_bot_left _ _ _ (floor_at i)]
  exact hM

theorem expo_at (s : FVec Ideal S4x4x2x8192x8448 .f32) (b h : Fin 4) (e : Fin 2) (t : Fin 8192) (j : Fin 8448) :
    expo s (ix5 b h e t j) = Ideal.exp (s (ix5 b h e t j) - top s (ix4 b h e t)) := by
  pointwise [expo]

theorem weights_at (s : FVec Ideal S4x4x2x8192x8448 .f32) (b h : Fin 4) (e : Fin 2) (t : Fin 8192) (j : Fin 8448) :
    weights s (ix5 b h e t j) = Ideal.div (expo s (ix5 b h e t j)) (∑ k : Fin 8448, expo s (ix5 b h e t k)) := by
  pointwise [weights]

theorem lam_at (a : FVec Ideal S4x64 .f32) :
    lam a ix0 = Ideal.exp (∑ d : Fin 64, a (ix2 0 d) * a (ix2 1 d)) - Ideal.exp (∑ d : Fin 64, a (ix2 2 d) * a (ix2 3 d))
      + Ideal.ofBits .f32 0x3E4CCCCD#32 := by
  pointwise [lam]

theorem mixed_at (l : FVec Ideal S_ .f32) (w : FVec Ideal S4x4x2x8192x8448 .f32) (b h : Fin 4) (t : Fin 8192) (j : Fin 8448) :
    mixed l w (ix4 b h t j) = w (ix5 b h 0 t j) - l ix0 * w (ix5 b h 1 t j) := by
  pointwise [mixed]

theorem heads_at (v : FVec Ideal S4x8448x4x128 .f32) (w : FVec Ideal S4x4x8192x8448 .f32) (b h : Fin 4) (t : Fin 8192) (l : Fin 128) :
    heads v w (ix4 b t h l) = ∑ j : Fin 8448, v (ix4 b j h l) * w (ix4 b h t j) := by
  pointwise [heads]

theorem normed_at (x : FVec Ideal S4x8192x4x128 .f32) (b h : Fin 4) (t : Fin 8192) (l : Fin 128) :
    normed x (ix4 b t h l) = x (ix4 b t h l) * Ideal.rsqrt (Ideal.div (∑ d : Fin 128, x (ix4 b t h d) * x (ix4 b t h d)) (Ideal.ofBits .f32 0x43000000#32)
      + Ideal.ofBits .f32 0x358637BD#32) * Ideal.ofBits .f32 0x3F4CCCCD#32 := by
  pointwise [normed]

theorem result_at (a : FVec Ideal S4x64 .f32) (p : FVec Ideal S4x8192x2304 .f32) (c : FVec Ideal S4x256x2304 .f32) (b h : Fin 4) (t : Fin 8192) (l : Fin 128) :
    result a p c (ix3 b t ⟨h.val * 128 + l.val, by omega⟩) = normed (heads (values p c) (mixed (lam a) (weights (scores p c)))) (ix4 b t h l) := by
  pointwise [result]

end Cert.ReferenceIdeal.Attn
-- ==== Proof.Row.lean ====
/- One row of queries of one head, over the reals: what the two maps' mix is, in the kernel and in the reference. -/
module

public import proofs.«01_k».proof.Proof.Map
public import proofs.«01_k».proof.Proof.Ref

@[expose] public section

set_option maxRecDepth 16384

noncomputable section

open Idealize.ShloMosaic Idealize.ShloMosaic.TcCoe Idealize.SL.Sem

namespace Attn.Row

/-- The product of a query and a key over the 64 lanes of the first map, and of the second. -/
def dot0 (Q K : Fin 128 → ℝ) : ℝ := ∑ d : Fin 64, Q ⟨d.val, by omega⟩ * K ⟨d.val, by omega⟩
def dot1 (Q K : Fin 128 → ℝ) : ℝ := ∑ d : Fin 64, Q ⟨64 + d.val, by omega⟩ * K ⟨64 + d.val, by omega⟩

/-- The softmax weights of scores over `8`. -/
def soft (X : Fin 8448 → ℝ) (j : Fin 8448) : ℝ := Real.exp (X j * 8⁻¹) / ∑ i, Real.exp (X i * 8⁻¹)

/-- The mix of the two maps over the values `V`. -/
def mixed (L : ℝ) (Q : Fin 128 → ℝ) (K : Fin 8448 → Fin 128 → ℝ) (V : Fin 8448 → ℝ) : ℝ :=
  ∑ j, V j * (soft (fun i => dot0 Q (K i)) j - L * soft (fun i => dot1 Q (K i)) j)

/-- The kernel's scale, one over `8 ln 2`. -/
def scale : ℝ := 8⁻¹ * (Real.log 2)⁻¹

theorem sum_halves {M : Type} [AddCommMonoid M] (f : Fin 128 → M) :
    ∑ d, f d = (∑ d : Fin 64, f ⟨d.val, by omega⟩) + ∑ d : Fin 64, f ⟨64 + d.val, by omega⟩ :=
  Fin.sum_univ_add (a := 64) (b := 64) f

/-- The mean of the values with weights `2` to the scaled scores is the softmax mean. -/
theorem mean (X V : Fin 8448 → ℝ) :
    (∑ j, (2 : ℝ) ^ (X j * scale) * V j) / ∑ j, (2 : ℝ) ^ (X j * scale) = ∑ j, V j * soft X j := by
  simp only [scale, Attn.Soft.base_change, soft]
  rw [Finset.sum_div]
  exact Finset.sum_congr rfl fun j _ => by ring

theorem mean_mix (L : ℝ) (X Y V : Fin 8448 → ℝ) :
    (∑ j, V j * soft X j) - L * (∑ j, V j * soft Y j) = ∑ j, V j * (soft X j - L * soft Y j) := by
  rw [Finset.mul_sum, ← Finset.sum_sub_distrib]
  exact Finset.sum_congr rfl fun j _ => by ring

/-- A query masked to the first 64 lanes and scaled, against a key. -/
theorem masked0 (q k : Fin 128 → EReal) (Q K : Fin 128 → ℝ) (hq : ∀ d, q d = if d.val < 64 then (Q d : EReal) * ((scale : ℝ) : EReal) else 0)
    (hk : ∀ d, k d = (K d : EReal)) : ∑ d, q d * k d = ((dot0 Q K * scale : ℝ) : EReal) := by
  rw [sum_halves, dot0, Finset.sum_mul, Attn.Soft.coe_sum]
  have h2 : (∑ d : Fin 64, q ⟨64 + d.val, by omega⟩ * k ⟨64 + d.val, by omega⟩) = 0 :=
    Finset.sum_eq_zero fun d _ => by rw [hq, if_neg (by simp), zero_mul]
  rw [h2, add_zero]
  refine Finset.sum_congr rfl fun d _ => ?_
  rw [hq, hk, if_pos (by simp), ← EReal.coe_mul, ← EReal.coe_mul]
  congr 1; ring

/-- The same for the last 64 lanes. -/
theorem masked1 (q k : Fin 128 → EReal) (Q K : Fin 128 → ℝ) (hq : ∀ d, q d = if d.val < 64 then 0 else (Q d : EReal) * ((scale : ℝ) : EReal))
    (hk : ∀ d, k d = (K d : EReal)) : ∑ d, q d * k d = ((dot1 Q K * scale : ℝ) : EReal) := by
  rw [sum_halves, dot1, Finset.sum_mul, Attn.Soft.coe_sum]
  have h2 : (∑ d : Fin 64, q ⟨d.val, by omega⟩ * k ⟨d.val, by omega⟩) = 0 :=
    Finset.sum_eq_zero fun d _ => by rw [hq, if_pos (by simp), zero_mul]
  rw [h2, zero_add]
  refine Finset.sum_congr rfl fun d _ => ?_
  rw [hq, hk, if_neg (by simp), ← EReal.coe_mul, ← EReal.coe_mul]
  congr 1; ring

open Cert.KernelIdeal Cert.KernelIdeal.Gen Cert.KernelIdeal.Attn in
/-- The kernel's mix of a row. -/
theorem kernel_row (lm : FVec Ideal S1x1 .f32) (qa qb : FVec Ideal S128x128 .bf16) (kx : Vec Ideal S8448x128 .bf16) (vx : Vec Ideal S8448x256 .bf16)
    (i : Fin 128) (Q : Fin 128 → ℝ) (K V : Fin 8448 → Fin 128 → ℝ) (L : ℝ)
    (hL : lm (ix2 0 0) = (L : EReal))
    (ha : ∀ d, qa (ix2 i d) = if d.val < 64 then (Q d : EReal) * ((scale : ℝ) : EReal) else 0)
    (hb : ∀ d, qb (ix2 i d) = if d.val < 64 then 0 else (Q d : EReal) * ((scale : ℝ) : EReal))
    (hk : ∀ j d, kx (ix2 j d) = (K j d : EReal)) (hv : ∀ j (l : Fin 128), vx (ix2 j ⟨l.val, by omega⟩) = (V j l : EReal))
    (h1 : ∀ j, vx (ix2 j ⟨128, by omega⟩) = (1 : EReal)) (l : Fin 128) :
    mix lm (mapOut qa kx vx) (mapOut qb kx vx) (ix2 i l) = ((mixed L Q K (fun j => V j l) : ℝ) : EReal) := by
  have e0 := mapOut_real qa kx vx i l (fun j => dot0 Q (K j) * scale) (fun j => V j l)
    (fun j => masked0 _ _ Q (K j) ha (hk j)) (fun j => hv j l) h1
  have e1 := mapOut_real qb kx vx i l (fun j => dot1 Q (K j) * scale) (fun j => V j l)
    (fun j => masked1 _ _ Q (K j) hb (hk j)) (fun j => hv j l) h1
  rw [mix_at, e0, e1, hL, mean, mean, ← EReal.coe_mul, ← EReal.coe_sub, mean_mix]
  rfl

/-- Row `j` of the 512 columns from `o` of context and latent together. -/
def cat (o : ℕ) (ho : o + 512 ≤ 2304) (C : (⟨3, ![4, 256, 2304]⟩ : Shape).Idx → ℝ) (P : (⟨3, ![4, 8192, 2304]⟩ : Shape).Idx → ℝ)
    (b h : Fin 4) (j : Fin 8448) (d : Fin 128) : ℝ :=
  if hj : j.val < 256 then C (ix3 b ⟨j.val, hj⟩ ⟨o + (h.val * 128 + d.val), by omega⟩)
  else P (ix3 b ⟨j.val - 256, by omega⟩ ⟨o + (h.val * 128 + d.val), by omega⟩)

/-- A row of queries of a head. -/
def query (P : (⟨3, ![4, 8192, 2304]⟩ : Shape).Idx → ℝ) (b h : Fin 4) (t : Fin 8192) (d : Fin 128) : ℝ :=
  P (ix3 b t ⟨h.val * 128 + d.val, by omega⟩)

theorem eighth : Ideal.ofBits .f32 0x3E000000#32 = ((8⁻¹ : ℝ) : EReal) := by
  have he : 1040187392 >>> 23 % 256 = 124 := by decide
  have hs : ¬ BitVec.extractLsb' 31 1 1040187392#32 = 1#1 := by decide
  simp [Ideal.ofBits, Ideal.ieee, he, hs]
  norm_num
  rw [← EReal.coe_mul]
  congr 1
  norm_num

theorem lam_start : ∃ r : ℝ, Ideal.ofBits .f32 0x3E4CCCCD#32 = (r : EReal) := by
  have h : ∃ M : ℝ, Ideal.ofBits .f32 0x3E4CCCCD#32 = (M : EReal) := by
    simp only [Ideal.ofBits, Ideal.ieee]
    norm_num
    exact ⟨_, rfl⟩
  exact h

section Reference

open Cert.ReferenceIdeal Cert.ReferenceIdeal.Gen Cert.ReferenceIdeal.Attn

variable (p : FVec Ideal S4x8192x2304 .f32) (c : FVec Ideal S4x256x2304 .f32)
  (P : (⟨3, ![4, 8192, 2304]⟩ : Shape).Idx → ℝ) (C : (⟨3, ![4, 256, 2304]⟩ : Shape).Idx → ℝ)
  (hp : ∀ i, p i = (P i : EReal)) (hc : ∀ i, c i = (C i : EReal))

include hp hc

theorem scores_real0 (b h : Fin 4) (t : Fin 8192) (j : Fin 8448) :
    scores p c (ix5 b h 0 t j) = ((dot0 (query P b h t) (cat 512 (by omega) C P b h j) * 8⁻¹ : ℝ) : EReal) := by
  rw [scores_at, eighth, EReal.coe_mul, dot0, Attn.Soft.coe_sum]
  congr 1
  refine Finset.sum_congr rfl fun d _ => ?_
  rw [EReal.coe_mul, query, cat, hp]
  have e : h.val * 128 + (0 : Fin 2).val * 64 + d.val = h.val * 128 + d.val := by simp
  simp only [e]
  congr 1
  split
  · rw [hc]
  · rw [hp]

theorem scores_real1 (b h : Fin 4) (t : Fin 8192) (j : Fin 8448) :
    scores p c (ix5 b h 1 t j) = ((dot1 (query P b h t) (cat 512 (by omega) C P b h j) * 8⁻¹ : ℝ) : EReal) := by
  rw [scores_at, eighth, EReal.coe_mul, dot1, Attn.Soft.coe_sum]
  congr 1
  refine Finset.sum_congr rfl fun d _ => ?_
  rw [EReal.coe_mul, query, cat, hp]
  have e : h.val * 128 + (1 : Fin 2).val * 64 + d.val = h.val * 128 + (64 + d.val) := by simp; omega
  simp only [e]
  congr 1
  split
  · rw [hc]
  · rw [hp]

theorem scores_finite (i : S4x4x2x8192x8448.Idx) : ∃ r : ℝ, scores p c i = (r : EReal) := by
  obtain ⟨b, h, e, t, j, rfl⟩ : ∃ (b : Fin 4) (h : Fin 4) (e : Fin 2) (t : Fin 8192) (j : Fin 8448), i = ix5 b h e t j :=
    ⟨i 0, i 1, i 2, i 3, i 4, eq_ix5 i⟩
  rcases (by omega : e.val = 0 ∨ e.val = 1) with he | he
  · obtain rfl : e = 0 := Fin.ext he
    exact ⟨_, scores_real0 p c P C hp hc b h t j⟩
  · obtain rfl : e = 1 := Fin.ext he
    exact ⟨_, scores_real1 p c P C hp hc b h t j⟩

theorem weights_real (b h : Fin 4) (e : Fin 2) (t : Fin 8192) (X : Fin 8448 → ℝ)
    (hX : ∀ j, scores p c (ix5 b h e t j) = ((X j * 8⁻¹ : ℝ) : EReal)) (j : Fin 8448) :
    weights (scores p c) (ix5 b h e t j) = ((soft X j : ℝ) : EReal) := by
  obtain ⟨M, hM⟩ := top_real (scores p c) (scores_finite p c P C hp hc) (ix4 b h e t)
  rw [weights_at]
  simp only [expo_at, hM, hX]
  exact Attn.Soft.weight (by omega) M (fun j => X j * 8⁻¹) j

theorem reference_row (l : FVec Ideal S_ .f32) (L : ℝ) (hL : l ix0 = (L : EReal)) (b h : Fin 4) (t : Fin 8192) (x : Fin 128) :
    heads (values p c) (Cert.ReferenceIdeal.Attn.mixed l (weights (scores p c))) (ix4 b t h x)
      = ((mixed L (query P b h t) (cat 512 (by omega) C P b h) (fun j => cat 1024 (by omega) C P b h j x) : ℝ) : EReal) := by
  rw [heads_at, mixed, Attn.Soft.coe_sum]
  refine Finset.sum_congr rfl fun j _ => ?_
  rw [mixed_at, weights_real p c P C hp hc b h 0 t _ (scores_real0 p c P C hp hc b h t) j,
    weights_real p c P C hp hc b h 1 t _ (scores_real1 p c P C hp hc b h t) j, hL, values_at, EReal.coe_mul, EReal.coe_sub, EReal.coe_mul]
  congr 1
  unfold cat
  split
  · rw [hc]
  · rw [hp]

end Reference

end Attn.Row
-- ==== Proof.Block.lean ====
/- What a grid point writes is its block of the reference's result. -/
module

public import proofs.«01_k».proof.Proof.Row

@[expose] public section

set_option maxRecDepth 16384

noncomputable section

open Idealize.ShloMosaic Idealize.ShloMosaic.TcCoe Idealize.SL.Sem

namespace Attn.Row

open Cert.KernelIdeal.Attn (rowsOut blockOut lamOf keysOf valsOf)
open Cert.ReferenceIdeal.Attn (result heads values weights scores lam)

theorem lam_real (a : FVec Ideal Cert.ReferenceIdeal.S4x64 .f32) (A : (⟨2, ![4, 64]⟩ : Shape).Idx → ℝ) (ha : ∀ i, a i = (A i : EReal)) :
    ∃ L : ℝ, lam a ix0 = (L : EReal) := by
  obtain ⟨r, hr⟩ := lam_start
  refine ⟨Real.exp (∑ d : Fin 64, A (ix2 0 d) * A (ix2 1 d)) - Real.exp (∑ d : Fin 64, A (ix2 2 d) * A (ix2 3 d)) + r, ?_⟩
  rw [Cert.ReferenceIdeal.Attn.lam_at, hr, EReal.coe_add, EReal.coe_sub, ← Ideal.exp_coe, ← Ideal.exp_coe, Attn.Soft.coe_sum, Attn.Soft.coe_sum]
  simp only [ha, EReal.coe_mul]

section

variable (a : FVec Ideal Cert.ReferenceIdeal.S4x64 .f32) (p : FVec Ideal Cert.ReferenceIdeal.S4x8192x2304 .f32) (c : FVec Ideal Cert.ReferenceIdeal.S4x256x2304 .f32)
  (A : (⟨2, ![4, 64]⟩ : Shape).Idx → ℝ) (P : (⟨3, ![4, 8192, 2304]⟩ : Shape).Idx → ℝ) (C : (⟨3, ![4, 256, 2304]⟩ : Shape).Idx → ℝ)
  (ha : ∀ i, a i = (A i : EReal)) (hp : ∀ i, p i = (P i : EReal)) (hc : ∀ i, c i = (C i : EReal))

include ha hp hc

/-- A row of a step is a row of the reference. -/
theorem rows_eq (qa qb : FVec Ideal Cert.KernelIdeal.S128x128 .bf16) (kx : Vec Ideal Cert.KernelIdeal.S8448x128 .bf16)
    (vx : Vec Ideal Cert.KernelIdeal.S8448x256 .bf16) (i : Fin 128) (b h : Fin 4) (t : Fin 8192)
    (hqa : ∀ d : Fin 128, qa (ix2 i d) = if d.val < 64 then (query P b h t d : EReal) * ((scale : ℝ) : EReal) else 0)
    (hqb : ∀ d : Fin 128, qb (ix2 i d) = if d.val < 64 then 0 else (query P b h t d : EReal) * ((scale : ℝ) : EReal))
    (hk : ∀ j d, kx (ix2 j d) = (cat 512 (by omega) C P b h j d : EReal))
    (hv : ∀ j (l : Fin 128), vx (ix2 j ⟨l.val, by omega⟩) = (cat 1024 (by omega) C P b h j l : EReal))
    (h1 : ∀ j, vx (ix2 j ⟨128, by omega⟩) = (1 : EReal)) (l : Fin 128) :
    rowsOut a qa qb kx vx (ix3 0 i l) = result a p c (ix3 b t ⟨h.val * 128 + l.val, by omega⟩) := by
  obtain ⟨L, hL⟩ := lam_real a A ha
  have hL' : lamOf a (ix2 0 0) = (L : EReal) := by rw [← hL, Cert.KernelIdeal.Attn.lamOf_at, Cert.ReferenceIdeal.Attn.lam_at]
  have e := fun l => (kernel_row (lamOf a) qa qb kx vx i _ _ _ L hL' hqa hqb hk hv h1 l).trans
    (reference_row p c P C hp hc (lam a) L hL b h t l).symm
  rw [Cert.ReferenceIdeal.Attn.result_at, Cert.ReferenceIdeal.Attn.normed_at, rowsOut, Cert.KernelIdeal.Attn.norm_at]
  simp only [e]

/-- A block of what a point writes is a block of the reference. -/
theorem block_eq (x1 : Vec Ideal Cert.KernelIdeal.S1x512x128 .bf16) (x2 x3 : Vec Ideal Cert.KernelIdeal.S1x256x128 .bf16)
    (x4 x5 : Vec Ideal Cert.KernelIdeal.S1x8192x128 .bf16) (b h : Fin 4) (u : Fin 16)
    (h1 : ∀ (r : Fin 512) (l : Fin 128), x1 (ix3 0 r l) = p (ix3 b ⟨512 * u.val + r.val, by omega⟩ ⟨h.val * 128 + l.val, by omega⟩))
    (h2 : ∀ (r : Fin 256) (l : Fin 128), x2 (ix3 0 r l) = c (ix3 b r ⟨512 + (h.val * 128 + l.val), by omega⟩))
    (h3 : ∀ (r : Fin 256) (l : Fin 128), x3 (ix3 0 r l) = c (ix3 b r ⟨1024 + (h.val * 128 + l.val), by omega⟩))
    (h4 : ∀ (r : Fin 8192) (l : Fin 128), x4 (ix3 0 r l) = p (ix3 b r ⟨512 + (h.val * 128 + l.val), by omega⟩))
    (h5 : ∀ (r : Fin 8192) (l : Fin 128), x5 (ix3 0 r l) = p (ix3 b r ⟨1024 + (h.val * 128 + l.val), by omega⟩))
    (r : Fin 512) (l : Fin 128) :
    blockOut a x1 (keysOf x2 x4) (valsOf x3 x5) (ix3 0 r l)
      = result a p c (ix3 b ⟨512 * u.val + r.val, by omega⟩ ⟨h.val * 128 + l.val, by omega⟩) := by
  have hk : ∀ (j : Fin 8448) (d : Fin 128), keysOf x2 x4 (ix2 j d) = (cat 512 (by omega) C P b h j d : EReal) := by
    intro j d
    rw [Cert.KernelIdeal.Attn.keysOf_at]; unfold cat
    split
    · rw [h2, hc]
    · rw [h4, hp]
  have hv : ∀ (j : Fin 8448) (d : Fin 128), valsOf x3 x5 (ix2 j ⟨d.val, by omega⟩) = (cat 1024 (by omega) C P b h j d : EReal) := by
    intro j d
    rw [Cert.KernelIdeal.Attn.valsOf_at]; unfold cat
    split
    · rw [h3, hc]
    · rw [h5, hp]
  have hv1 : ∀ j : Fin 8448, valsOf x3 x5 (ix2 j ⟨128, by omega⟩) = (1 : EReal) := Cert.KernelIdeal.Attn.valsOf_one x3 x5
  generalize keysOf x2 x4 = kx at hk ⊢
  generalize valsOf x3 x5 = vx at hv hv1 ⊢
  unfold blockOut
  have hr := r.isLt
  rcases (by omega : 384 ≤ r.val ∨ (256 ≤ r.val ∧ r.val < 384) ∨ (128 ≤ r.val ∧ r.val < 256) ∨ r.val < 128) with g | g | g | g
  · refine (Cert.KernelIdeal.Attn.canon_take _ _ _ _ (ix3 (0 : Fin 1) (⟨r.val - 384, by omega⟩ : Fin 128) l) ?_).trans ?_
    · intro a; fin_cases a <;> simp <;> omega
    · have er : (⟨384 + (r.val - 384), by omega⟩ : Fin 512) = r := Fin.ext (by simp; omega)
      refine rows_eq a p c A P C ha hp hc _ _ kx vx _ b h _ (fun d => ?_) (fun d => ?_) hk hv hv1 l
      · rw [Cert.KernelIdeal.Attn.q16_at]; simp only [er]; rw [h1, hp]; rfl
      · rw [Cert.KernelIdeal.Attn.q17_at]; simp only [er]; rw [h1, hp]; rfl
  · refine (Cert.KernelIdeal.Attn.canon_skip _ _ _ _ 1 (Or.inl (by simp; omega))).trans ?_
    refine (Cert.KernelIdeal.Attn.canon_take _ _ _ _ (ix3 (0 : Fin 1) (⟨r.val - 256, by omega⟩ : Fin 128) l) ?_).trans ?_
    · intro a; fin_cases a <;> simp <;> omega
    · have er : (⟨256 + (r.val - 256), by omega⟩ : Fin 512) = r := Fin.ext (by simp; omega)
      refine rows_eq a p c A P C ha hp hc _ _ kx vx _ b h _ (fun d => ?_) (fun d => ?_) hk hv hv1 l
      · rw [Cert.KernelIdeal.Attn.q14_at]; simp only [er]; rw [h1, hp]; rfl
      · rw [Cert.KernelIdeal.Attn.q15_at]; simp only [er]; rw [h1, hp]; rfl
  · refine (Cert.KernelIdeal.Attn.canon_skip _ _ _ _ 1 (Or.inl (by simp; omega))).trans ?_
    refine (Cert.KernelIdeal.Attn.canon_skip _ _ _ _ 1 (Or.inl (by simp; omega))).trans ?_
    refine (Cert.KernelIdeal.Attn.canon_take _ _ _ _ (ix3 (0 : Fin 1) (⟨r.val - 128, by omega⟩ : Fin 128) l) ?_).trans ?_
    · intro a; fin_cases a <;> simp <;> omega
    · have er : (⟨128 + (r.val - 128), by omega⟩ : Fin 512) = r := Fin.ext (by simp; omega)
      refine rows_eq a p c A P C ha hp hc _ _ kx vx _ b h _ (fun d => ?_) (fun d => ?_) hk hv hv1 l
      · rw [Cert.KernelIdeal.Attn.q12_at]; simp only [er]; rw [h1, hp]; rfl
      · rw [Cert.KernelIdeal.Attn.q13_at]; simp only [er]; rw [h1, hp]; rfl
  · refine (Cert.KernelIdeal.Attn.canon_skip _ _ _ _ 1 (Or.inl (by simp; omega))).trans ?_
    refine (Cert.KernelIdeal.Attn.canon_skip _ _ _ _ 1 (Or.inl (by simp; omega))).trans ?_
    refine (Cert.KernelIdeal.Attn.canon_skip _ _ _ _ 1 (Or.inl (by simp; omega))).trans ?_
    refine (Cert.KernelIdeal.Attn.canon_take _ _ _ _ (ix3 (0 : Fin 1) (⟨r.val, by omega⟩ : Fin 128) l) ?_).trans ?_
    · intro a; fin_cases a <;> simp
    · refine rows_eq a p c A P C ha hp hc _ _ kx vx _ b h _ (fun d => ?_) (fun d => ?_) hk hv hv1 l
      · rw [Cert.KernelIdeal.Attn.q10_at, h1, hp]; rfl
      · rw [Cert.KernelIdeal.Attn.q11_at, h1, hp]; rfl

end

end Attn.Row
-- ==== Proof.Reads.lean ====
/- What each grid point reads, and what it leaves in its scratch and its output block. -/
module

public import proofs.«01_k».proof.Proof.Block
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The block each window reads at a point. -/
theorem idx : ∀ t : Fin cfg0.N,
    win0_0.index t = ![0, 0] ∧ win0_1.index t = ![t.val / 64, t.val % 16, t.val / 16 % 4]
    ∧ win0_2.index t = ![t.val / 64, 0, 4 + t.val / 16 % 4] ∧ win0_3.index t = ![t.val / 64, 0, 8 + t.val / 16 % 4]
    ∧ win0_4.index t = ![t.val / 64, 0, 4 + t.val / 16 % 4] ∧ win0_5.index t = ![t.val / 64, 0, 8 + t.val / 16 % 4]
    ∧ win0_6.index t = ![t.val / 64, t.val % 16, t.val / 16 % 4] :=
  (by decide +kernel : ∀ t : Fin grid0.N, _)

theorem lt_N (t : Fin cfg0.N) : t.val < 256 := lt_of_lt_of_eq t.isLt N_0

variable (m : (ℓ : Loc nD τ sig) → Buf (Elt Ideal) ℓ) (c : Dev nD)

abbrev A : FVec Ideal S4x64 .f32 := m ((c : Thread nD τ).loc main_arg0)
abbrev P : FVec Ideal S4x8192x2304 .f32 := m ((c : Thread nD τ).loc main_arg1)
abbrev C : FVec Ideal S4x256x2304 .f32 := m ((c : Thread nD τ).loc main_arg2)

theorem latent : (V m c main_v0 : FVec Ideal S4x8192x2304 .bf16) = P m c := by
  entry_read
  funext i
  rfl

theorem context : (V m c main_v1 : FVec Ideal S4x256x2304 .bf16) = C m c := by
  entry_read
  funext i
  rfl

theorem blk0 (t : Fin cfg0.N) : iblk m c 0 t = A m c := by
  blk_ext! [iblk, V, idx t]

theorem blk1 (t : Fin cfg0.N) (r : Fin 512) (l : Fin 128) :
    (iblk m c 1 t : Vec Ideal S1x512x128 .bf16) (ix3 0 r l) = P m c (ix3 ⟨t.val / 64, by have := lt_N t; omega⟩ ⟨512 * (t.val % 16) + r.val, by omega⟩
      ⟨t.val / 16 % 4 * 128 + l.val, by omega⟩) := by
  rw [← latent]
  blk_ext [iblk, idx t]

theorem blk2 (t : Fin cfg0.N) (r : Fin 256) (l : Fin 128) :
    (iblk m c 2 t : Vec Ideal S1x256x128 .bf16) (ix3 0 r l) = C m c (ix3 ⟨t.val / 64, by have := lt_N t; omega⟩ r
      ⟨512 + (t.val / 16 % 4 * 128 + l.val), by omega⟩) := by
  rw [← context]
  blk_ext [iblk, idx t]

theorem blk3 (t : Fin cfg0.N) (r : Fin 256) (l : Fin 128) :
    (iblk m c 3 t : Vec Ideal S1x256x128 .bf16) (ix3 0 r l) = C m c (ix3 ⟨t.val / 64, by have := lt_N t; omega⟩ r
      ⟨1024 + (t.val / 16 % 4 * 128 + l.val), by omega⟩) := by
  rw [← context]
  blk_ext [iblk, idx t]

theorem blk4 (t : Fin cfg0.N) (r : Fin 8192) (l : Fin 128) :
    (iblk m c 4 t : Vec Ideal S1x8192x128 .bf16) (ix3 0 r l) = P m c (ix3 ⟨t.val / 64, by have := lt_N t; omega⟩ r
      ⟨512 + (t.val / 16 % 4 * 128 + l.val), by omega⟩) := by
  rw [← latent]
  blk_ext [iblk, idx t]

theorem blk5 (t : Fin cfg0.N) (r : Fin 8192) (l : Fin 128) :
    (iblk m c 5 t : Vec Ideal S1x8192x128 .bf16) (ix3 0 r l) = P m c (ix3 ⟨t.val / 64, by have := lt_N t; omega⟩ r
      ⟨1024 + (t.val / 16 % 4 * 128 + l.val), by omega⟩) := by
  rw [← latent]
  blk_ext [iblk, idx t]

end Cert.KernelIdeal.Attn
-- ==== Proof.Final.lean ====
/- The kernel's array after the run is the reference's result. -/
module

public import proofs.«01_k».proof.Proof.Reads

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ) (c : Dev nD)

/-- Points of one batch and head read the same rows of keys and values. -/
theorem same (s t : Fin cfg0.N) (h : s.val / 16 = t.val / 16) :
    (iblk m c 2 s = iblk m c 2 t ∧ iblk m c 3 s = iblk m c 3 t) ∧ iblk m c 4 s = iblk m c 4 t ∧ iblk m c 5 s = iblk m c 5 t := by
  have e1 : s.val / 64 = t.val / 64 := by omega
  have e2 : s.val / 16 % 4 = t.val / 16 % 4 := by omega
  refine ⟨⟨?_, ?_⟩, ?_, ?_⟩
  · funext (y : S1x256x128.Idx)
    obtain ⟨z, r, l, rfl⟩ : ∃ (z : Fin 1) (r : Fin 256) (l : Fin 128), y = ix3 z r l := ⟨y 0, y 1, y 2, eq_ix3 y⟩
    obtain rfl : z = 0 := Fin.ext (by omega)
    refine (blk2 m c s r l).trans (Eq.trans ?_ (blk2 m c t r l).symm)
    simp only [e1, e2]
  · funext (y : S1x256x128.Idx)
    obtain ⟨z, r, l, rfl⟩ : ∃ (z : Fin 1) (r : Fin 256) (l : Fin 128), y = ix3 z r l := ⟨y 0, y 1, y 2, eq_ix3 y⟩
    obtain rfl : z = 0 := Fin.ext (by omega)
    refine (blk3 m c s r l).trans (Eq.trans ?_ (blk3 m c t r l).symm)
    simp only [e1, e2]
  · funext (y : S1x8192x128.Idx)
    obtain ⟨z, r, l, rfl⟩ : ∃ (z : Fin 1) (r : Fin 8192) (l : Fin 128), y = ix3 z r l := ⟨y 0, y 1, y 2, eq_ix3 y⟩
    obtain rfl : z = 0 := Fin.ext (by omega)
    refine (blk4 m c s r l).trans (Eq.trans ?_ (blk4 m c t r l).symm)
    simp only [e1, e2]
  · funext (y : S1x8192x128.Idx)
    obtain ⟨z, r, l, rfl⟩ : ∃ (z : Fin 1) (r : Fin 8192) (l : Fin 128), y = ix3 z r l := ⟨y 0, y 1, y 2, eq_ix3 y⟩
    obtain rfl : z = 0 := Fin.ext (by omega)
    refine (blk5 m c s r l).trans (Eq.trans ?_ (blk5 m c t r l).symm)
    simp only [e1, e2]

/-- After every point the scratch holds the keys and values of the point's batch and head. -/
theorem held : ∀ (n : ℕ) (t : Fin cfg0.N), t.val = n →
    (outsAt0 m c t.val t.isLt).2.1 = keysOf (iblk m c 2 t) (iblk m c 4 t) ∧ (outsAt0 m c t.val t.isLt).2.2 = valsOf (iblk m c 3 t) (iblk m c 5 t) := by
  intro n
  induction n using Nat.strong_induction_on with
  | _ n ih =>
    intro t ht
    by_cases h : t.val % 16 = 0
    · exact ⟨keys_A m c t h, vals_A m c t h⟩
    · have hs : t.val - 1 < cfg0.N := Nat.lt_of_le_of_lt (Nat.sub_le _ _) t.isLt
      obtain ⟨hk, hv⟩ := ih (t.val - 1) (by omega) ⟨t.val - 1, hs⟩ rfl
      obtain ⟨⟨s2, s3⟩, s4, s5⟩ := same m c ⟨t.val - 1, hs⟩ t (by simp only; omega)
      rw [s2, s4] at hk
      rw [s3, s5] at hv
      exact ⟨(keys_B m c t h).trans hk, (vals_B m c t h).trans hv⟩

/-- So every point writes what its own block of queries, and its batch's and head's keys and values, give. -/
theorem wrote (t : Fin cfg0.N) :
    (outsAt0 m c t.val t.isLt).1 = blockOut (iblk m c 0 t) (iblk m c 1 t) (keysOf (iblk m c 2 t) (iblk m c 4 t)) (valsOf (iblk m c 3 t) (iblk m c 5 t)) := by
  by_cases h : t.val % 16 = 0
  · exact out_A m c t h _ rfl _ rfl
  · have hs : t.val - 1 < cfg0.N := Nat.lt_of_le_of_lt (Nat.sub_le _ _) t.isLt
    obtain ⟨hk, hv⟩ := held m c (t.val - 1) ⟨t.val - 1, hs⟩ rfl
    obtain ⟨⟨s2, s3⟩, s4, s5⟩ := same m c ⟨t.val - 1, hs⟩ t (by simp only; omega)
    rw [s2, s4] at hk
    rw [s3, s5] at hv
    rw [out_B m c t h]
    exact congrArg₂ _ hk hv

theorem final (hA : ∀ i, ∃ r : ℝ, A m c i = (r : EReal)) (hP : ∀ i, ∃ r : ℝ, P m c i = (r : EReal)) (hC : ∀ i, ∃ r : ℝ, C m c i = (r : EReal)) :
    (dats m 0 c).arrAt 6 cfg0.N = (Cert.ReferenceIdeal.Attn.result (A m c) (P m c) (C m c) : FVec Ideal S4x8192x512 .bf16) := by
  choose a ha using hA
  choose p hp using hP
  choose k hk using hC
  refine (dats m 0 c).arrAt_eq_of_covers 6 _ (by decide +kernel) fun t hf y => ?_
  blk_simp
  rw [after0_6, wrote]
  rw [blk0]
  revert y
  intro (y : S1x512x128.Idx)
  obtain ⟨z, r, l, rfl⟩ : ∃ (z : Fin 1) (r : Fin 512) (l : Fin 128), y = ix3 z r l := ⟨y 0, y 1, y 2, eq_ix3 y⟩
  obtain rfl : z = 0 := Fin.ext (by omega)
  have h := lt_N t
  refine (Attn.Row.block_eq (A m c) (P m c) (C m c) a p k ha hp hk (iblk m c 1 t) (iblk m c 2 t) (iblk m c 3 t) (iblk m c 4 t) (iblk m c 5 t)
    ⟨t.val / 64, by omega⟩ ⟨t.val / 16 % 4, by omega⟩ ⟨t.val % 16, by omega⟩
    (fun r l => blk1 m c t r l) (fun r l => blk2 m c t r l) (fun r l => blk3 m c t r l) (fun r l => blk4 m c t r l) (fun r l => blk5 m c t r l) r l).trans ?_
  blk_ext [idx t]

/-- A number below infinity in absolute value is real. -/
theorem real_of_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- So where the precondition holds of an array, its entries are real. -/
theorem real_of_pre {S : Shape} (x : FVec Ideal S .f32) {S0 : Shape} (d : Fin S0.rank → Fin S.rank) {hd : S0.BroadcastsInDim S d} (k : FVec Ideal S0 .f32) (hk : ∀ i, k i = Ideal.ofBits .f32 0x7F800000#32)
    (h : cmpf .olt (Host.absf x) (broadcastInDim S d hd k) = fun _ => 1#1) (i : S.Idx) : ∃ r : ℝ, x i = (r : EReal) := by
  have e : cmpf .olt (Host.absf x) (broadcastInDim S d hd k) i = Ideal.cmp .olt (max (x i) (-(x i))) (k _) := rfl
  rw [h, hk] at e
  exact real_of_lt e.symm

end Cert.KernelIdeal.Attn
-- ==== Proof.FfnSpec.lean ====
/- One row of the out-projection and ffn, over the extended reals. -/
module

public import Idealize.ShloMosaic.Lib.Pointwise.Tactic

@[expose] public section

noncomputable section

open Idealize.ShloMosaic

namespace Ffn

/-- The rms norm of a row of 1024, with its gain. -/
def rms (x g : Fin 1024 → EReal) (j : Fin 1024) : EReal :=
  x j * Ideal.rsqrt (Ideal.div (∑ d, x d * x d) (Ideal.ofBits .f32 0x44800000#32) + Ideal.ofBits .f32 0x358637BD#32) * g j

/-- A normed row, modulated. -/
def modulated (x g sc sh : Fin 1024 → EReal) (j : Fin 1024) : EReal := rms x g j * (1 + sc j) + sh j

/-- The gated unit of a row: the silu of the gate times the other half. -/
def unit (h : Fin 1024 → EReal) (w : Fin 1024 → Fin 5632 → EReal) (f : Fin 2816) : EReal :=
  (∑ d, h d * w d ⟨f.val, by omega⟩) * Ideal.logistic (∑ d, h d * w d ⟨f.val, by omega⟩) * ∑ d, h d * w d ⟨2816 + f.val, by omega⟩

/-- The ffn added to the row through its gate. -/
def ffn (x h gate : Fin 1024 → EReal) (w : Fin 1024 → Fin 5632 → EReal) (v : Fin 2816 → Fin 1024 → EReal) (j : Fin 1024) : EReal :=
  x j + gate j * ∑ f, unit h w f * v f j

/-- The row after the out-projection, added through its gate: the two halves of the mix one after the other. -/
def joined (x gate : Fin 1024 → EReal) (a b : Fin 512 → EReal) (w : Fin 1024 → Fin 1024 → EReal) (j : Fin 1024) : EReal :=
  x j + gate j * (∑ k, a k * w ⟨k.val, by omega⟩ j + ∑ k, b k * w ⟨512 + k.val, by omega⟩ j)

/-- The whole row. -/
def row (x : Fin 1024 → EReal) (a b : Fin 512 → EReal) (mod : Fin 6144 → EReal) (g : Fin 1024 → EReal) (wo : Fin 1024 → Fin 1024 → EReal)
    (w : Fin 1024 → Fin 5632 → EReal) (v : Fin 2816 → Fin 1024 → EReal) : Fin 1024 → EReal :=
  let x1 := joined x (fun j => mod ⟨2048 + j.val, by omega⟩) a b wo
  ffn x1 (modulated x1 g (fun j => mod ⟨4096 + j.val, by omega⟩) (fun j => mod ⟨3072 + j.val, by omega⟩)) (fun j => mod ⟨5120 + j.val, by omega⟩) w v

theorem split1024 (f : Fin 1024 → EReal) : ∑ k, f k = (∑ k : Fin 512, f ⟨k.val, by omega⟩) + ∑ k : Fin 512, f ⟨512 + k.val, by omega⟩ :=
  Fin.sum_univ_add (a := 512) (b := 512) f

theorem split2816 (f : Fin 2816 → EReal) : ∑ k, f k = (∑ k : Fin 1408, f ⟨k.val, by omega⟩) + ∑ k : Fin 1408, f ⟨1408 + k.val, by omega⟩ :=
  Fin.sum_univ_add (a := 1408) (b := 1408) f

end Ffn
-- ==== Proof.MixSpec.lean ====
/- One row of the mixers' outputs as the last call joins them, over the extended reals. -/
module

public import proofs.«01_k».proof.Proof.FfnSpec

@[expose] public section

noncomputable section

open Idealize.ShloMosaic

namespace Ffn

/-- The rms norm of one head of 128, with its gain. -/
def head (o g : Fin 128 → EReal) (l : Fin 128) : EReal :=
  o l * Ideal.rsqrt (Ideal.div (∑ d, o d * o d) (Ideal.ofBits .f32 0x43000000#32) + Ideal.ofBits .f32 0x358637BD#32) * g l

/-- A gated linear attention row: every head normed, then the silu of its gate. -/
def gla (o z : Fin 512 → EReal) (g : Fin 128 → EReal) (k : Fin 512) : EReal :=
  head (fun d => o ⟨k.val / 128 * 128 + d.val, by omega⟩) g ⟨k.val % 128, by omega⟩ * (z k * Ideal.logistic (z k))

/-- A linear recurrence row under the gelu of its gate. -/
def lru (h z : Fin 512 → EReal) (k : Fin 512) : EReal :=
  h k * (z k * (Ideal.ofBits .f32 0x3F000000#32 * (1 + Ideal.tanh (Ideal.ofBits .f32 0x3F4C422A#32
    * (z k + Ideal.ofBits .f32 0x3D372713#32 * (z k * z k * z k))))))

theorem gla_of (o z : Fin 512 → EReal) (g : Fin 128 → EReal) (q : ℕ) (l : Fin 128) (hq : 128 * q + l.val < 512) (o' : Fin 128 → EReal)
    (ho : ∀ d : Fin 128, o' d = o ⟨128 * q + d.val, by omega⟩) :
    gla o z g ⟨128 * q + l.val, hq⟩ = head o' g l * (z ⟨128 * q + l.val, hq⟩ * Ideal.logistic (z ⟨128 * q + l.val, hq⟩)) := by
  have h1 : (128 * q + l.val) / 128 = q := by omega
  have h2 : (⟨(128 * q + l.val) % 128, by omega⟩ : Fin 128) = l := Fin.ext (by show (128 * q + l.val) % 128 = l.val; omega)
  have h3 : (fun d : Fin 128 => o ⟨(128 * q + l.val) / 128 * 128 + d.val, by omega⟩) = o' := by
    funext d
    rw [ho d]
    refine congrArg o (Fin.ext ?_)
    show (128 * q + l.val) / 128 * 128 + d.val = 128 * q + d.val
    omega
  unfold gla
  rw [h2, h3]

end Ffn
-- ==== Proof.Ker3.lean ====
/- The payloads of the last call of layer 0, entry by entry. -/
module

public import Idealize.ShloMosaic.Lib.Pointwise
public import proofs.«01_k».proof.Proof.FfnSpec
public import proofs.«01_k».proof.Proof.Gen.Kernel3Ideal.Skeleton

@[expose] public section

set_option maxRecDepth 16384

noncomputable section

open Idealize.ShloMosaic Idealize.ShloMosaic.TcCoe Idealize.SL.Sem

namespace Cert.Kernel3Ideal.Out

open Cert.Kernel3Ideal Cert.Kernel3Ideal.Gen

theorem pay3_at (v0 : Vec Ideal S1x512x1024 .f32) (v2 v4 : Vec Ideal S1x512x512 .bf16) (v6 v9 : Vec Ideal S512x1024 .bf16) (v13 : Vec Ideal S1x1x6144 .f32)
    (r : Fin 512) (j : Fin 1024) :
    k0_pay3 v0 v2 v4 v6 v9 v13 (ix2 r j) = v0 (ix3 0 r j) + v13 (ix3 0 0 ⟨2048 + j.val, by omega⟩)
      * (∑ k : Fin 512, v2 (ix3 0 r k) * v6 (ix2 k j) + ∑ k : Fin 512, v4 (ix3 0 r k) * v9 (ix2 k j)) := by
  pointwise [k0_pay3, k0_pay2]

/-- The normed rows before the modulation, over any rows. -/
def normed (x : FVec Ideal S512x1024 .f32) (g : Vec Ideal S1x1024 .f32) : FVec Ideal S512x1024 .f32 :=
  let s : FVec Ideal S512x1 .f32 := shapeCast S512x1 (multiReduction .add [1] S512 (mulf x x) 0x00000000#32 reduces_S512x1024_S512 (.inl rfl) rfl) shapeCasts_S512_S512x1
  mulf (mulf x (broadcastTo S512x1024 (rsqrt (addf (divf s (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

theorem normed_at (x : FVec Ideal S512x1024 .f32) (g : Vec Ideal S1x1024 .f32) (r : Fin 512) (j : Fin 1024) :
    normed x g (ix2 r j) = Ffn.rms (fun d => x (ix2 r d)) (fun d => g (ix2 0 d)) j := by
  pointwise [normed, Ffn.rms]

theorem pay6_eq (v0 : Vec Ideal S1x512x1024 .f32) (v2 v4 : Vec Ideal S1x512x512 .bf16) (v6 v9 : Vec Ideal S512x1024 .bf16) (v13 : Vec Ideal S1x1x6144 .f32)
    (v19 : Vec Ideal S1x1024 .f32) : k0_pay6 v0 v2 v4 v6 v9 v13 v19 = normed (k0_pay3 v0 v2 v4 v6 v9 v13) v19 := rfl

theorem pay7_at (v14 : FVec Ideal S1x6144 .f32) (v18 : FVec Ideal S512x1024 .f32) (v21 v22 : FVec Ideal S1x1024 .f32) (v34 : FVec Ideal S512x1024 .f32)
    (v42 v45 : Vec Ideal S1024x1408 .bf16) (v52 : Vec Ideal S1408x1024 .bf16) (v55 v58 : Vec Ideal S1024x1408 .bf16) (v65 : Vec Ideal S1408x1024 .bf16)
    (r : Fin 512) (j : Fin 1024) (h : Fin 1024 → EReal) (hh : ∀ d, h d = v34 (ix2 r d) * (1 + v22 (ix2 0 d)) + v21 (ix2 0 d)) :
    k0_pay7 v14 v18 v21 v22 v34 v42 v45 v52 v55 v58 v65 (ix2 r j) = v18 (ix2 r j) + v14 (ix2 0 ⟨5120 + j.val, by omega⟩)
      * ((∑ f : Fin 1408, ((∑ d, h d * v42 (ix2 d f)) * Ideal.logistic (∑ d, h d * v42 (ix2 d f)) * (∑ d, h d * v45 (ix2 d f))) * v52 (ix2 f j))
        + ∑ f : Fin 1408, ((∑ d, h d * v55 (ix2 d f)) * Ideal.logistic (∑ d, h d * v55 (ix2 d f)) * (∑ d, h d * v58 (ix2 d f))) * v65 (ix2 f j)) := by
  simp only [hh]
  pointwise [k0_pay7]

end Cert.Kernel3Ideal.Out
-- ==== Proof.Ker2.lean ====
/- The payloads of the last call, entry by entry. -/
module

public import Idealize.ShloMosaic.Lib.Pointwise
public import proofs.«01_k».proof.Proof.MixSpec
public import proofs.«01_k».proof.Proof.Ker3
public import proofs.«01_k».proof.Proof.Gen.Kernel2Ideal.Skeleton

@[expose] public section

set_option maxRecDepth 16384

noncomputable section

open Idealize.ShloMosaic Idealize.ShloMosaic.TcCoe Idealize.SL.Sem

namespace Cert.Kernel2Ideal.Out

open Cert.Kernel2Ideal Cert.Kernel2Ideal.Gen

/-- The gated heads, one quarter of the columns at a time. -/
theorem quarter0 (a b z : Vec Ideal S1x512x512 .f32) (g : Vec Ideal S1x128 .f32) (r : Fin 512) (l : Fin 128) :
    k0_pay8 (k0_pay3 a b) (k0_pay4 z) (k0_pay5 a b z g) (k0_pay6 a b) (k0_pay7 a b) g g g (ix2 r ⟨l.val, by omega⟩)
      = Ffn.head (fun d => a (ix3 0 r ⟨d.val, by omega⟩) + b (ix3 0 r ⟨d.val, by omega⟩)) (fun d => g (ix2 0 d)) l
        * (z (ix3 0 r ⟨l.val, by omega⟩) * Ideal.logistic (z (ix3 0 r ⟨l.val, by omega⟩))) := by
  have h0 : l.val < 128 := l.isLt
  pointwise [k0_pay8, k0_pay5, k0_pay3, k0_pay4, Ffn.head, h0]

theorem quarter1 (a b z : Vec Ideal S1x512x512 .f32) (g : Vec Ideal S1x128 .f32) (r : Fin 512) (l : Fin 128) :
    k0_pay8 (k0_pay3 a b) (k0_pay4 z) (k0_pay5 a b z g) (k0_pay6 a b) (k0_pay7 a b) g g g (ix2 r ⟨128 + l.val, by omega⟩)
      = Ffn.head (fun d => a (ix3 0 r ⟨128 + d.val, by omega⟩) + b (ix3 0 r ⟨128 + d.val, by omega⟩)) (fun d => g (ix2 0 d)) l
        * (z (ix3 0 r ⟨128 + l.val, by omega⟩) * Ideal.logistic (z (ix3 0 r ⟨128 + l.val, by omega⟩))) := by
  have h0 : ¬ (128 + l.val < 128) := by omega
  have e : 128 + l.val - 128 = l.val := by omega
  have h9 : l.val < 128 := l.isLt
  pointwise [k0_pay8, k0_pay6, k0_pay7, k0_pay3, k0_pay4, Ffn.head, h0, e, h9]

theorem quarter2 (a b z : Vec Ideal S1x512x512 .f32) (g : Vec Ideal S1x128 .f32) (r : Fin 512) (l : Fin 128) :
    k0_pay8 (k0_pay3 a b) (k0_pay4 z) (k0_pay5 a b z g) (k0_pay6 a b) (k0_pay7 a b) g g g (ix2 r ⟨256 + l.val, by omega⟩)
      = Ffn.head (fun d => a (ix3 0 r ⟨256 + d.val, by omega⟩) + b (ix3 0 r ⟨256 + d.val, by omega⟩)) (fun d => g (ix2 0 d)) l
        * (z (ix3 0 r ⟨256 + l.val, by omega⟩) * Ideal.logistic (z (ix3 0 r ⟨256 + l.val, by omega⟩))) := by
  have h0 : ¬ (256 + l.val < 128) := by omega
  have h1 : ¬ (256 + l.val - 128 < 128) := by omega
  have e : 256 + l.val - 128 - 128 = l.val := by omega
  have h9 : l.val < 128 := l.isLt
  pointwise [k0_pay8, k0_pay3, k0_pay4, Ffn.head, h0, h1, e, h9]

theorem quarter3 (a b z : Vec Ideal S1x512x512 .f32) (g : Vec Ideal S1x128 .f32) (r : Fin 512) (l : Fin 128) :
    k0_pay8 (k0_pay3 a b) (k0_pay4 z) (k0_pay5 a b z g) (k0_pay6 a b) (k0_pay7 a b) g g g (ix2 r ⟨384 + l.val, by omega⟩)
      = Ffn.head (fun d => a (ix3 0 r ⟨384 + d.val, by omega⟩) + b (ix3 0 r ⟨384 + d.val, by omega⟩)) (fun d => g (ix2 0 d)) l
        * (z (ix3 0 r ⟨384 + l.val, by omega⟩) * Ideal.logistic (z (ix3 0 r ⟨384 + l.val, by omega⟩))) := by
  have h0 : ¬ (384 + l.val < 128) := by omega
  have h1 : ¬ (384 + l.val - 128 < 128) := by omega
  have h2 : ¬ (384 + l.val - 128 - 128 < 128) := by omega
  have e : 384 + l.val - 128 - 128 - 128 = l.val := by omega
  have h9 : l.val < 128 := l.isLt
  pointwise [k0_pay8, k0_pay3, k0_pay4, Ffn.head, h0, h1, h2, e, h9]

/-- The attention's half of the mix. -/
theorem gla_at (a b z : Vec Ideal S1x512x512 .f32) (g : Vec Ideal S1x128 .f32) (r : Fin 512) (k : Fin 512) :
    k0_pay8 (k0_pay3 a b) (k0_pay4 z) (k0_pay5 a b z g) (k0_pay6 a b) (k0_pay7 a b) g g g (ix2 r k)
      = Ffn.gla (fun k => a (ix3 0 r k) + b (ix3 0 r k)) (fun k => z (ix3 0 r k)) (fun d => g (ix2 0 d)) k := by
  obtain ⟨k, hk⟩ := k
  obtain ⟨q, l, rfl⟩ : ∃ (q : ℕ) (l : Fin 128), k = 128 * q + l.val := ⟨k / 128, ⟨k % 128, by omega⟩, by show k = 128 * (k / 128) + k % 128; omega⟩
  rw [Ffn.gla_of _ _ _ q l hk (fun d => a (ix3 0 r ⟨128 * q + d.val, by omega⟩) + b (ix3 0 r ⟨128 * q + d.val, by omega⟩)) (fun d => rfl)]
  obtain rfl | rfl | rfl | rfl : q = 0 ∨ q = 1 ∨ q = 2 ∨ q = 3 := by omega
  · simpa only [Nat.mul_zero, Nat.zero_add] using quarter0 a b z g r l
  · exact quarter1 a b z g r l
  · exact quarter2 a b z g r l
  · exact quarter3 a b z g r l

/-- The rows after the out-projection, for any first half of the mix. -/
theorem pay10_at (x : Vec Ideal S1x512x1024 .f32) (u : FVec Ideal S512x512 .f32) (a b z : Vec Ideal S1x512x512 .f32) (w1 w2 : Vec Ideal S512x1024 .bf16) (q : Vec Ideal S1x1x6144 .f32)
    (r : Fin 512) (j : Fin 1024) :
    k0_pay10 (k0_pay2 x) u a b z w1 w2 q (ix2 r j) = x (ix3 0 r j) + q (ix3 0 0 ⟨2048 + j.val, by omega⟩)
      * (∑ k : Fin 512, u (ix2 r k) * w1 (ix2 k j) + ∑ k : Fin 512, Ffn.lru (fun k => a (ix3 0 r k) + b (ix3 0 r k)) (fun k => z (ix3 0 r k)) k * w2 (ix2 k j)) := by
  pointwise [k0_pay10, k0_pay2, k0_pay9, Ffn.lru, mul_left_comm (Ideal.ofBits .f32 0x3F000000#32), mul_assoc]

/-- The modulated rows. -/
theorem pay11_at (q : Vec Ideal S1x1x6144 .f32) (x : FVec Ideal S512x1024 .f32) (g : Vec Ideal S1x1024 .f32) (r : Fin 512) (d : Fin 1024) :
    k0_pay11 (k0_pay9 q) x g (ix2 r d) = Ffn.modulated (fun d => x (ix2 r d)) (fun d => g (ix2 0 d)) (fun d => q (ix3 0 0 ⟨4096 + d.val, by omega⟩))
      (fun d => q (ix3 0 0 ⟨3072 + d.val, by omega⟩)) d := by
  pointwise [k0_pay11, k0_pay9, Ffn.modulated, Ffn.rms]

/-- The stream before the last norm, from the two halves of the ffn. -/
def added (q : FVec Ideal S1x6144 .f32) (x : FVec Ideal S512x1024 .f32) (h : FVec Ideal S512x1024 .bf16) (y : FVec Ideal S512x1024 .f32) (u : FVec Ideal S512x1408 .f32)
    (w : FVec Ideal S1024x1408 .bf16) (v : Vec Ideal S1408x1024 .bf16) : FVec Ideal S512x1024 .f32 :=
  addf x (mulf (broadcastTo S512x1024 (extractStridedSlice S1x1024 ![0, 5120] q slices_S1x6144_o0_5120_S1x1024) broadcasts_S1x1024_S512x1024)
    (addf y (matmul dot_S512x1408_S1408x1024_S512x1024_1_0_0_1_n_n none (truncf .bf16 (mulf (mulf u (logistic u))
      (matmul dot_S512x1024_S1024x1408_S512x1408_1_0_0_1_n_n none h w (constant S512x1408 .f32 0x00000000#32))) bitsLt_bf16_f32)
      (shapeCast S1408x1024 v shapeCasts_S1408x1024_S1408x1024 : FVec Ideal S1408x1024 .bf16) (constant S512x1024 .f32 0x00000000#32))))

theorem pay1_eq (q : FVec Ideal S1x6144 .f32) (x : FVec Ideal S512x1024 .f32) (h : FVec Ideal S512x1024 .bf16) (y : FVec Ideal S512x1024 .f32) (u : FVec Ideal S512x1408 .f32)
    (w : FVec Ideal S1024x1408 .bf16) (v : Vec Ideal S1408x1024 .bf16) (g : Vec Ideal S1x1024 .f32) :
    k0_pay1 q x h y u w (constant S512x1408 .f32 0x00000000#32) v g
      = shapeCast S1x512x1024 (Cert.Kernel3Ideal.Out.normed (added q x h y u w v) g) shapeCasts_S512x1024_S1x512x1024 := rfl

theorem added_at (q : FVec Ideal S1x6144 .f32) (x : FVec Ideal S512x1024 .f32) (g : Vec Ideal S1x1024 .f32)
    (u1 u2 u3 u4 : Vec Ideal S1024x1408 .bf16) (v1 v2 : Vec Ideal S1408x1024 .bf16) (r : Fin 512) (j : Fin 1024) (h : Fin 1024 → EReal)
    (hh : ∀ d, k0_pay11 q x g (ix2 r d) = h d) :
    added q x (k0_pay11 q x g) (k0_pay12 q x g u1 u2 v1) (k0_pay13 q x g u3) (k0_pay14 u4) v2 (ix2 r j)
      = x (ix2 r j) + q (ix2 0 ⟨5120 + j.val, by omega⟩)
      * ((∑ f : Fin 1408, ((∑ d, h d * u1 (ix2 d f)) * Ideal.logistic (∑ d, h d * u1 (ix2 d f)) * (∑ d, h d * u2 (ix2 d f))) * v1 (ix2 f j))
        + ∑ f : Fin 1408, ((∑ d, h d * u3 (ix2 d f)) * Ideal.logistic (∑ d, h d * u3 (ix2 d f)) * (∑ d, h d * u4 (ix2 d f))) * v2 (ix2 f j)) := by
  pointwise [added, k0_pay12, k0_pay13, k0_pay14, hh]

/-- What a point writes, from the blocks it reads: the weights in the pieces it reads them in. -/
def block (x0 : Vec Ideal S1x512x1024 .f32) (x1 x2 x3 x4 x5 x6 : Vec Ideal S1x512x512 .f32) (x7 : Vec Ideal S1x128 .f32) (x8 : Vec Ideal S1x1x6144 .f32) (x9 : Vec Ideal S1x1024 .f32)
    (w1 w2 : Vec Ideal S512x1024 .bf16) (u1 u2 u3 u4 : Vec Ideal S1024x1408 .bf16) (v1 v2 : Vec Ideal S1408x1024 .bf16) (x13 : Vec Ideal S1x1024 .f32) : Vec Ideal S1x512x1024 .f32 :=
  let q := k0_pay9 x8
  let s := k0_pay10 (k0_pay2 x0) (k0_pay8 (k0_pay3 x1 x2) (k0_pay4 x5) (k0_pay5 x1 x2 x5 x7) (k0_pay6 x1 x2) (k0_pay7 x1 x2) x7 x7 x7) x3 x4 x6 w1 w2 x8
  k0_pay1 q s (k0_pay11 q s x9) (k0_pay12 q s x9 u1 u2 v1) (k0_pay13 q s x9 u3) (k0_pay14 u4) (constant S512x1408 .f32 0x00000000#32) v2 x13

theorem pay9_at (q : Vec Ideal S1x1x6144 .f32) (k : Fin 6144) : k0_pay9 q (ix2 0 k) = q (ix3 0 0 k) := by
  pointwise [k0_pay9]

theorem lift_at (v : FVec Ideal S512x1024 .f32) (r : Fin 512) (j : Fin 1024) : shapeCast S1x512x1024 v shapeCasts_S512x1024_S1x512x1024 (ix3 0 r j) = v (ix2 r j) := by
  pointwise

theorem block_at (x0 : Vec Ideal S1x512x1024 .f32) (x1 x2 x3 x4 x5 x6 : Vec Ideal S1x512x512 .f32) (x7 : Vec Ideal S1x128 .f32) (x8 : Vec Ideal S1x1x6144 .f32) (x9 : Vec Ideal S1x1024 .f32)
    (w1 w2 : Vec Ideal S512x1024 .bf16) (u1 u2 u3 u4 : Vec Ideal S1024x1408 .bf16) (v1 v2 : Vec Ideal S1408x1024 .bf16) (x13 : Vec Ideal S1x1024 .f32)
    (wo : Fin 1024 → Fin 1024 → EReal) (hw1 : ∀ (k : Fin 512) (d : Fin 1024), w1 (ix2 k d) = wo ⟨k.val, by omega⟩ d) (hw2 : ∀ (k : Fin 512) (d : Fin 1024), w2 (ix2 k d) = wo ⟨512 + k.val, by omega⟩ d)
    (wi : Fin 1024 → Fin 5632 → EReal) (hu1 : ∀ (d : Fin 1024) (f : Fin 1408), u1 (ix2 d f) = wi d ⟨f.val, by omega⟩) (hu2 : ∀ (d : Fin 1024) (f : Fin 1408), u2 (ix2 d f) = wi d ⟨2816 + f.val, by omega⟩)
    (hu3 : ∀ (d : Fin 1024) (f : Fin 1408), u3 (ix2 d f) = wi d ⟨1408 + f.val, by omega⟩) (hu4 : ∀ (d : Fin 1024) (f : Fin 1408), u4 (ix2 d f) = wi d ⟨2816 + (1408 + f.val), by omega⟩)
    (wf : Fin 2816 → Fin 1024 → EReal) (hv1 : ∀ (f : Fin 1408) (d : Fin 1024), v1 (ix2 f d) = wf ⟨f.val, by omega⟩ d) (hv2 : ∀ (f : Fin 1408) (d : Fin 1024), v2 (ix2 f d) = wf ⟨1408 + f.val, by omega⟩ d)
    (r : Fin 512) (j : Fin 1024) :
    block x0 x1 x2 x3 x4 x5 x6 x7 x8 x9 w1 w2 u1 u2 u3 u4 v1 v2 x13 (ix3 0 r j) = Ffn.rms (Ffn.row (fun d => x0 (ix3 0 r d))
      (Ffn.gla (fun k => x1 (ix3 0 r k) + x2 (ix3 0 r k)) (fun k => x5 (ix3 0 r k)) (fun d => x7 (ix2 0 d)))
      (Ffn.lru (fun k => x3 (ix3 0 r k) + x4 (ix3 0 r k)) (fun k => x6 (ix3 0 r k)))
      (fun k => x8 (ix3 0 0 k)) (fun d => x9 (ix2 0 d)) wo wi wf) (fun d => x13 (ix2 0 d)) j := by
  unfold block
  rw [pay1_eq, lift_at, Cert.Kernel3Ideal.Out.normed_at]
  refine congrArg (fun y => Ffn.rms y (fun d => x13 (ix2 0 d)) j) (funext fun j => ?_)
  have hs : ∀ j, k0_pay10 (k0_pay2 x0) (k0_pay8 (k0_pay3 x1 x2) (k0_pay4 x5) (k0_pay5 x1 x2 x5 x7) (k0_pay6 x1 x2) (k0_pay7 x1 x2) x7 x7 x7) x3 x4 x6 w1 w2 x8 (ix2 r j)
      = Ffn.joined (fun d => x0 (ix3 0 r d)) (fun j => x8 (ix3 0 0 ⟨2048 + j.val, by omega⟩)) (Ffn.gla (fun k => x1 (ix3 0 r k) + x2 (ix3 0 r k)) (fun k => x5 (ix3 0 r k)) (fun d => x7 (ix2 0 d)))
      (Ffn.lru (fun k => x3 (ix3 0 r k) + x4 (ix3 0 r k)) (fun k => x6 (ix3 0 r k))) wo j := by
    intro j
    rw [pay10_at]
    simp only [gla_at, hw1, hw2, Ffn.joined]
  rw [added_at _ _ _ _ _ _ _ _ _ r j _ (fun d => pay11_at x8 _ x9 r d), pay9_at]
  simp only [hs, hu1, hu2, hu3, hu4, hv1, hv2]
  unfold Ffn.row Ffn.ffn
  rw [Ffn.split2816]
  rfl

end Cert.Kernel2Ideal.Out
-- ==== Proof.Body2.lean ====
/- What a point of the last call leaves in its output block, as the payloads of what it reads. -/
module

public import proofs.«01_k».proof.Proof.Ker2
public import proofs.«01_k».proof.Proof.Gen.Kernel2Ideal.Frame
public import Idealize.ShloMosaic.Lib.Pipeline.ValueKit
public import Idealize.ShloMosaic.Lib.Pipeline.ReadBack
    import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen

variable (m : (ℓ : Loc nD τ sig) → Buf (Elt Ideal) ℓ) (c : Dev nD)

/-- What a point writes, the weights cut into the pieces it reads. -/
def blockOut (x0 : Vec Ideal S1x512x1024 .f32) (x1 x2 x3 x4 x5 x6 : Vec Ideal S1x512x512 .f32) (x7 : Vec Ideal S1x128 .f32) (x8 : Vec Ideal S1x1x6144 .f32) (x9 : Vec Ideal S1x1024 .f32)
    (x10 : Vec Ideal S1024x1024 .bf16) (x11 : Vec Ideal S1024x5632 .bf16) (x12 : Vec Ideal S2816x1024 .bf16) (x13 : Vec Ideal S1x1024 .f32) : Vec Ideal S1x512x1024 .f32 :=
  block x0 x1 x2 x3 x4 x5 x6 x7 x8 x9
    (View.ld x10 (Rect.unit ![0, 0] ![512, 1024] inb_S1024x1024_S512x1024_0_0)) (View.ld x10 (Rect.unit ![512, 0] ![512, 1024] inb_S1024x1024_S512x1024_512_0))
    (View.ld x11 (Rect.unit ![0, 0] ![1024, 1408] inb_S1024x5632_S1024x1408_0_0)) (View.ld x11 (Rect.unit ![0, 2816] ![1024, 1408] inb_S1024x5632_S1024x1408_0_2816))
    (View.ld x11 (Rect.unit ![0, 1408] ![1024, 1408] inb_S1024x5632_S1024x1408_0_1408)) (View.ld x11 (Rect.unit ![0, 4224] ![1024, 1408] inb_S1024x5632_S1024x1408_0_4224))
    (View.ld x12 (Rect.unit ![0, 0] ![1408, 1024] inb_S2816x1024_S1408x1024_0_0)) (View.ld x12 (Rect.unit ![1408, 0] ![1408, 1024] inb_S2816x1024_S1408x1024_1408_0)) x13

theorem blockOut_at (x0 : Vec Ideal S1x512x1024 .f32) (x1 x2 x3 x4 x5 x6 : Vec Ideal S1x512x512 .f32) (x7 : Vec Ideal S1x128 .f32) (x8 : Vec Ideal S1x1x6144 .f32) (x9 : Vec Ideal S1x1024 .f32)
    (x10 : Vec Ideal S1024x1024 .bf16) (x11 : Vec Ideal S1024x5632 .bf16) (x12 : Vec Ideal S2816x1024 .bf16) (x13 : Vec Ideal S1x1024 .f32) (r : Fin 512) (j : Fin 1024) :
    blockOut x0 x1 x2 x3 x4 x5 x6 x7 x8 x9 x10 x11 x12 x13 (ix3 0 r j) = Ffn.rms (Ffn.row (fun d => x0 (ix3 0 r d))
      (Ffn.gla (fun k => x1 (ix3 0 r k) + x2 (ix3 0 r k)) (fun k => x5 (ix3 0 r k)) (fun d => x7 (ix2 0 d)))
      (Ffn.lru (fun k => x3 (ix3 0 r k) + x4 (ix3 0 r k)) (fun k => x6 (ix3 0 r k)))
      (fun k => x8 (ix3 0 0 k)) (fun d => x9 (ix2 0 d)) (fun k d => x10 (ix2 k d)) (fun d k => x11 (ix2 d k)) (fun f d => x12 (ix2 f d))) (fun d => x13 (ix2 0 d)) j := by
  unfold blockOut
  refine block_at _ _ _ _ _ _ _ _ _ _ _ _ _ _ _ _ _ _ _ _ ?_ ?_ _ ?_ ?_ ?_ ?_ _ ?_ ?_ r j <;> intro a b <;> pointwise [← Nat.add_assoc]

set_option maxHeartbeats 1000000 in
theorem out_any (t : Fin cfg0.N) (Z : Vec Ideal S1x512x1024 .f32)
    (hZ : blockOut (iblk m c 0 t) (iblk m c 1 t) (iblk m c 2 t) (iblk m c 3 t) (iblk m c 4 t) (X0_5 m c t) (X0_6 m c t) (iblk m c 7 t) (iblk m c 8 t) (iblk m c 9 t)
      (iblk m c 10 t) (iblk m c 11 t) (iblk m c 12 t) (iblk m c 13 t) = Z) :
    outsAt0 m c t = Z := by
  unfold outsAt0
  frame_open
  simp (disch := decide) only [↓View.readCov_skip, View.readCov_cons_toLoadRect, View.read_writes_junk_eq_canon, View.canon_cons_unit_lit',
        View.ld_unit_lit', View.readCov_unit_lit', View.readCov_cons_unit_lit', View.readAt_eq_ld,
        Memref.IsWhole.read_unread, read_unread_whole]
  unfold blockOut block at hZ
  exact hZ

end Cert.Kernel2Ideal.Out
-- ==== Proof.Out2.lean ====
/- What each grid point of the last call reads and writes, and the array it leaves. -/
module

public import proofs.«01_k».proof.Proof.Body2
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen

/-- The block each window reads at a point. -/
theorem idx : ∀ t : Fin cfg0.N,
    win0_0.index t = ![t.val / 16, t.val % 16, 0] ∧ win0_1.index t = ![t.val / 16, t.val % 16, 0] ∧ win0_2.index t = ![t.val / 16, t.val % 16, 0]
    ∧ win0_3.index t = ![t.val / 16, t.val % 16, 0] ∧ win0_4.index t = ![t.val / 16, t.val % 16, 0]
    ∧ win0_5.index t = ![t.val / 16, t.val % 16, 2] ∧ win0_6.index t = ![t.val / 16, t.val % 16, 3] ∧ win0_7.index t = ![0, 0] ∧ win0_8.index t = ![t.val / 16, 0, 0]
    ∧ win0_9.index t = ![0, 0] ∧ win0_10.index t = ![0, 0] ∧ win0_11.index t = ![0, 0] ∧ win0_12.index t = ![0, 0] ∧ win0_13.index t = ![0, 0]
    ∧ win0_14.index t = ![t.val / 16, t.val % 16, 0] :=
  (by decide +kernel : ∀ t : Fin grid0.N, _)

theorem lt_N (t : Fin cfg0.N) : t.val < 64 := lt_of_lt_of_eq t.isLt N_0

variable (m : (ℓ : Loc nD τ sig) → Buf (Elt Ideal) ℓ) (c : Dev nD)

abbrev X : FVec Ideal S4x8192x1024 .f32 := m ((c : Thread nD τ).loc main_arg0)
abbrev OF : FVec Ideal S4x8192x512 .f32 := m ((c : Thread nD τ).loc main_arg1)
abbrev OB : FVec Ideal S4x8192x512 .f32 := m ((c : Thread nD τ).loc main_arg2)
abbrev HF : FVec Ideal S4x8192x512 .f32 := m ((c : Thread nD τ).loc main_arg3)
abbrev HB : FVec Ideal S4x8192x512 .f32 := m ((c : Thread nD τ).loc main_arg4)
abbrev P : FVec Ideal S4x8192x2688 .f32 := m ((c : Thread nD τ).loc main_arg5)
abbrev Q : FVec Ideal S8x6144 .f32 := m ((c : Thread nD τ).loc main_arg6)
abbrev GG : FVec Ideal S128 .f32 := m ((c : Thread nD τ).loc main_arg7)
abbrev G : FVec Ideal S1024 .f32 := m ((c : Thread nD τ).loc main_arg8)
abbrev WO : FVec Ideal S1024x1024 .f32 := m ((c : Thread nD τ).loc main_arg9)
abbrev WI : FVec Ideal S1024x5632 .f32 := m ((c : Thread nD τ).loc main_arg10)
abbrev WF : FVec Ideal S2816x1024 .f32 := m ((c : Thread nD τ).loc main_arg11)
abbrev FG : FVec Ideal S1024 .f32 := m ((c : Thread nD τ).loc main_arg12)

theorem blk0 (t : Fin cfg0.N) (r : Fin 512) (l : Fin 1024) :
    (iblk m c 0 t : Vec Ideal S1x512x1024 .f32) (ix3 0 r l) = X m c (ix3 ⟨t.val / 16, by have := lt_N t; omega⟩ ⟨512 * (t.val % 16) + r.val, by omega⟩ l) := by
  blk_ext! [iblk, V, idx t]

theorem blk1 (t : Fin cfg0.N) (r : Fin 512) (l : Fin 512) :
    (iblk m c 1 t : Vec Ideal S1x512x512 .f32) (ix3 0 r l) = OF m c (ix3 ⟨t.val / 16, by have := lt_N t; omega⟩ ⟨512 * (t.val % 16) + r.val, by omega⟩ l) := by
  blk_ext! [iblk, V, idx t]

theorem blk2 (t : Fin cfg0.N) (r : Fin 512) (l : Fin 512) :
    (iblk m c 2 t : Vec Ideal S1x512x512 .f32) (ix3 0 r l) = OB m c (ix3 ⟨t.val / 16, by have := lt_N t; omega⟩ ⟨512 * (t.val % 16) + r.val, by omega⟩ l) := by
  blk_ext! [iblk, V, idx t]

theorem blk3 (t : Fin cfg0.N) (r : Fin 512) (l : Fin 512) :
    (iblk m c 3 t : Vec Ideal S1x512x512 .f32) (ix3 0 r l) = HF m c (ix3 ⟨t.val / 16, by have := lt_N t; omega⟩ ⟨512 * (t.val % 16) + r.val, by omega⟩ l) := by
  blk_ext! [iblk, V, idx t]

theorem blk4 (t : Fin cfg0.N) (r : Fin 512) (l : Fin 512) :
    (iblk m c 4 t : Vec Ideal S1x512x512 .f32) (ix3 0 r l) = HB m c (ix3 ⟨t.val / 16, by have := lt_N t; omega⟩ ⟨512 * (t.val % 16) + r.val, by omega⟩ l) := by
  blk_ext! [iblk, V, idx t]

theorem blk5 (t : Fin cfg0.N) (r : Fin 512) (l : Fin 512) :
    (X0_5 m c t : Vec Ideal S1x512x512 .f32) (ix3 0 r l) = P m c (ix3 ⟨t.val / 16, by have := lt_N t; omega⟩ ⟨512 * (t.val % 16) + r.val, by omega⟩ ⟨1024 + l.val, by omega⟩) := by
  unfold X0_5 Pipeline.Window.fill
  rw [dif_pos (moved0_5 t _)]
  blk_ext! [iblk, V, idx t]

theorem blk6 (t : Fin cfg0.N) (r : Fin 512) (l : Fin 512) :
    (X0_6 m c t : Vec Ideal S1x512x512 .f32) (ix3 0 r l) = P m c (ix3 ⟨t.val / 16, by have := lt_N t; omega⟩ ⟨512 * (t.val % 16) + r.val, by omega⟩ ⟨1536 + l.val, by omega⟩) := by
  unfold X0_6 Pipeline.Window.fill
  rw [dif_pos (moved0_6 t _)]
  blk_ext! [iblk, V, idx t]

theorem host_gg : (V m c main_v4 : FVec Ideal S1x128 .f32) = fun i => GG m c (ix1 (i 1)) := by
  entry_read
  funext i
  pointwise

theorem host_g : (V m c main_v5 : FVec Ideal S1x1024 .f32) = fun i => G m c (ix1 (i 1)) := by
  entry_read
  funext i
  pointwise

theorem host_fg : (V m c main_v6 : FVec Ideal S1x1024 .f32) = fun i => FG m c (ix1 (i 1)) := by
  entry_read
  funext i
  pointwise

theorem host_mod : (V m c main_v0 : FVec Ideal S8x1x6144 .f32) = fun i => Q m c (ix2 (i 0) (i 2)) := by
  entry_read
  funext i
  pointwise

theorem host_wo : (V m c main_v2 : FVec Ideal S1024x1024 .bf16) = WO m c := by
  entry_read
  funext i
  rfl

theorem host_wi : (V m c main_v3 : FVec Ideal S1024x5632 .bf16) = WI m c := by
  entry_read
  funext i
  rfl

theorem host_wf : (V m c main_v1 : FVec Ideal S2816x1024 .bf16) = WF m c := by
  entry_read
  funext i
  rfl

theorem blk7 (t : Fin cfg0.N) (d : Fin 128) : (iblk m c 7 t : Vec Ideal S1x128 .f32) (ix2 0 d) = GG m c (ix1 d) := by
  have e : (V m c main_v4 : FVec Ideal S1x128 .f32) (ix2 0 d) = GG m c (ix1 d) := by
    rw [host_gg]
    pointwise
  rw [← e]
  blk_ext [iblk, idx t]

theorem blk9 (t : Fin cfg0.N) (d : Fin 1024) : (iblk m c 9 t : Vec Ideal S1x1024 .f32) (ix2 0 d) = G m c (ix1 d) := by
  have e : (V m c main_v5 : FVec Ideal S1x1024 .f32) (ix2 0 d) = G m c (ix1 d) := by
    rw [host_g]
    pointwise
  rw [← e]
  blk_ext [iblk, idx t]

theorem blk13 (t : Fin cfg0.N) (d : Fin 1024) : (iblk m c 13 t : Vec Ideal S1x1024 .f32) (ix2 0 d) = FG m c (ix1 d) := by
  have e : (V m c main_v6 : FVec Ideal S1x1024 .f32) (ix2 0 d) = FG m c (ix1 d) := by
    rw [host_fg]
    pointwise
  rw [← e]
  blk_ext [iblk, idx t]

theorem blk8 (t : Fin cfg0.N) (k : Fin 6144) :
    (iblk m c 8 t : Vec Ideal S1x1x6144 .f32) (ix3 0 0 k) = Q m c (ix2 ⟨t.val / 16, by have := lt_N t; omega⟩ k) := by
  have e : (V m c main_v0 : FVec Ideal S8x1x6144 .f32) (ix3 ⟨t.val / 16, by have := lt_N t; omega⟩ 0 k) = Q m c (ix2 ⟨t.val / 16, by have := lt_N t; omega⟩ k) := by
    rw [host_mod]
    pointwise
  rw [← e]
  blk_ext [iblk, idx t]

theorem blk10 (t : Fin cfg0.N) (i : Fin 1024) (j : Fin 1024) : (iblk m c 10 t : Vec Ideal S1024x1024 .bf16) (ix2 i j) = WO m c (ix2 i j) := by
  rw [← host_wo]
  blk_ext [iblk, idx t]

theorem blk11 (t : Fin cfg0.N) (i : Fin 1024) (j : Fin 5632) : (iblk m c 11 t : Vec Ideal S1024x5632 .bf16) (ix2 i j) = WI m c (ix2 i j) := by
  rw [← host_wi]
  blk_ext [iblk, idx t]

theorem blk12 (t : Fin cfg0.N) (i : Fin 2816) (j : Fin 1024) : (iblk m c 12 t : Vec Ideal S2816x1024 .bf16) (ix2 i j) = WF m c (ix2 i j) := by
  rw [← host_wf]
  blk_ext [iblk, idx t]

/-- The array after the run, entry by entry. -/
theorem final (R : FVec Ideal S4x8192x1024 .f32)
    (hR : ∀ (i : Fin 4) (r : Fin 8192) (j : Fin 1024), R (ix3 i r j) = Ffn.rms (Ffn.row (fun d => X m c (ix3 i r d))
      (Ffn.gla (fun k => OF m c (ix3 i r k) + OB m c (ix3 i r k)) (fun k => P m c (ix3 i r ⟨1024 + k.val, by omega⟩)) (fun d => GG m c (ix1 d)))
      (Ffn.lru (fun k => HF m c (ix3 i r k) + HB m c (ix3 i r k)) (fun k => P m c (ix3 i r ⟨1536 + k.val, by omega⟩)))
      (fun k => Q m c (ix2 ⟨i.val, by omega⟩ k)) (fun d => G m c (ix1 d)) (fun k d => WO m c (ix2 k d)) (fun d k => WI m c (ix2 d k)) (fun f d => WF m c (ix2 f d)))
      (fun d => FG m c (ix1 d)) j) :
    (dats m 0 c).arrAt 14 cfg0.N = R := by
  refine (dats m 0 c).arrAt_eq_of_covers 14 _ (by decide +kernel) fun t hf y => ?_
  blk_simp
  rw [after0_14, out_any m c t _ rfl]
  revert y
  intro (y : S1x512x1024.Idx)
  obtain ⟨z, r, l, rfl⟩ : ∃ (z : Fin 1) (r : Fin 512) (l : Fin 1024), y = ix3 z r l := ⟨y 0, y 1, y 2, eq_ix3 y⟩
  obtain rfl : z = 0 := Fin.ext (by omega)
  have h := lt_N t
  refine (blockOut_at (iblk m c 0 t) (iblk m c 1 t) (iblk m c 2 t) (iblk m c 3 t) (iblk m c 4 t) (X0_5 m c t) (X0_6 m c t) (iblk m c 7 t) (iblk m c 8 t) (iblk m c 9 t) (iblk m c 10 t) (iblk m c 11 t) (iblk m c 12 t) (iblk m c 13 t) r l).trans ?_
  simp only [blk0, blk1, blk2, blk3, blk4, blk5, blk6, blk7, blk8, blk9, blk10, blk11, blk12, blk13]
  refine (hR ⟨t.val / 16, by omega⟩ ⟨512 * (t.val % 16) + r.val, by omega⟩ l).symm.trans ?_
  blk_ext [idx t]

end Cert.Kernel2Ideal.Out
-- ==== Proof.Ref3.lean ====
/- The reference of the out-projection and ffn, step by step, and one row of it over the extended reals. -/
module

public import proofs.«01_k».proof.Proof.FfnSpec
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Out

open Cert.Reference3Ideal Cert.Reference3Ideal.Gen

/-- The modulation of each batch entry. -/
def mods (q : FVec Ideal S8x6144 .f32) : FVec Ideal S4x1x6144 .f32 :=
  broadcastInDim S4x1x6144 ![0, 2] bcast_S4x6144_S4x1x6144_0_2 (extractStridedSlice S4x6144 ![0, 0] q slices_S8x6144_S4x6144_0_0)

/-- One modulation vector per batch entry, over all its rows. -/
def full (v : FVec Ideal S4x1x1024 .f32) : FVec Ideal S4x8192x1024 .f32 :=
  broadcastInDim S4x8192x1024 ![0, 1, 2] bcast_S4x1x1024_S4x8192x1024_0_1_2 v

/-- The stream after the mix of `a` and `b` has been projected and added through its gate. -/
def joined (x : FVec Ideal S4x8192x1024 .f32) (a b : FVec Ideal S4x8192x512 .bf16) (q : FVec Ideal S8x6144 .f32) (w : FVec Ideal S1024x1024 .f32) :
    FVec Ideal S4x8192x1024 .f32 :=
  addf x (mulf (full (extractStridedSlice S4x1x1024 ![0, 0, 2048] (mods q) slices_S4x1x6144_S4x1x1024_0_0_2048))
    (Host.dotGeneral dot_S4x8192x1024_S1024x1024_S4x8192x1024_2_0_01_1_n_n none
      (extf .f32 (concatenate S4x8192x1024 2 [⟨S4x8192x512, a⟩, ⟨S4x8192x512, b⟩] concatenates_S4x8192x512_S4x8192x512_S4x8192x1024_d2) bitsLt_bf16_f32) w))

/-- The rms norm of every row, with its gain. -/
def normed (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The norm of every row, modulated. -/
def modulated (x : FVec Ideal S4x8192x1024 .f32) (g : FVec Ideal S1024 .f32) (q : FVec Ideal S8x6144 .f32) : FVec Ideal S4x8192x1024 .f32 :=
  addf (mulf (normed x g) (full (addf (broadcastInDim S4x1x1024 ![] bcast_S_S4x1x1024 (constant S_ .f32 0x3F800000#32))
    (extractStridedSlice S4x1x1024 ![0, 0, 4096] (mods q) slices_S4x1x6144_S4x1x1024_0_0_4096))))
    (full (extractStridedSlice S4x1x1024 ![0, 0, 3072] (mods q) slices_S4x1x6144_S4x1x1024_0_0_3072))

/-- The two halves of the ffn's first product. -/
def hidden (h : FVec Ideal S4x8192x1024 .f32) (w : FVec Ideal S1024x5632 .f32) : FVec Ideal S4x8192x5632 .f32 :=
  Host.dotGeneral dot_S4x8192x1024_S1024x5632_S4x8192x5632_2_0_01_1_n_n none h w

/-- The silu of one half, times the other. -/
def units (u : FVec Ideal S4x8192x5632 .f32) : FVec Ideal S4x8192x2816 .f32 :=
  mulf (mulf (extractStridedSlice S4x8192x2816 ![0, 0, 0] u slices_S4x8192x5632_S4x8192x2816_0_0_0)
    (Host.divf (broadcastInDim S4x8192x2816 ![] bcast_S_S4x8192x2816 (constant S_ .f32 0x3F800000#32))
      (addf (broadcastInDim S4x8192x2816 ![] bcast_S_S4x8192x2816 (constant S_ .f32 0x3F800000#32))
        (Host.exp (Host.negf (extractStridedSlice S4x8192x2816 ![0, 0, 0] u slices_S4x8192x5632_S4x8192x2816_0_0_0))))))
    (extractStridedSlice S4x8192x2816 ![0, 0, 2816] u slices_S4x8192x5632_S4x8192x2816_0_0_2816)

/-- The ffn's second product, added through its gate. -/
def added (x : FVec Ideal S4x8192x1024 .f32) (q : FVec Ideal S8x6144 .f32) (a : FVec Ideal S4x8192x2816 .f32) (v : FVec Ideal S2816x1024 .f32) :
    FVec Ideal S4x8192x1024 .f32 :=
  addf x (mulf (full (extractStridedSlice S4x1x1024 ![0, 0, 5120] (mods q) slices_S4x1x6144_S4x1x1024_0_0_5120))
    (Host.dotGeneral dot_S4x8192x2816_S2816x1024_S4x8192x1024_2_0_01_1_n_n none a v))

/-- The ffn of a stream. -/
def ffn (x : FVec Ideal S4x8192x1024 .f32) (q : FVec Ideal S8x6144 .f32) (g : FVec Ideal S1024 .f32) (w : FVec Ideal S1024x5632 .f32) (v : FVec Ideal S2816x1024 .f32) :
    FVec Ideal S4x8192x1024 .f32 :=
  added x q (units (hidden (modulated x g q) w)) v

theorem res_eq (m : (ℓ : Loc nD τ sig) → Buf (Elt Ideal) ℓ) (c : Dev nD) :
    Value.res_main_v41 m c = ffn (joined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)))
      (m ((c.tc : Thread nD τ).loc main_arg3)) (m ((c.tc : Thread nD τ).loc main_arg4)) (m ((c.tc : Thread nD τ).loc main_arg6)) (m ((c.tc : Thread nD τ).loc main_arg7)) := rfl

theorem joined_at (x : FVec Ideal S4x8192x1024 .f32) (a b : FVec Ideal S4x8192x512 .bf16) (q : FVec Ideal S8x6144 .f32) (w : FVec Ideal S1024x1024 .f32)
    (i : Fin 4) (r : Fin 8192) (j : Fin 1024) :
    joined x a b q w (ix3 i r j) = Ffn.joined (fun d => x (ix3 i r d)) (fun d => q (ix2 ⟨i.val, by omega⟩ ⟨2048 + d.val, by omega⟩)) (fun k => a (ix3 i r k)) (fun k => b (ix3 i r k))
      (fun k d => w (ix2 k d)) j := by
  pointwise [joined, full, mods, Ffn.joined]

theorem normed_at (x : FVec Ideal S4x8192x1024 .f32) (g : FVec Ideal S1024 .f32) (i : Fin 4) (r : Fin 8192) (j : Fin 1024) :
    normed x g (ix3 i r j) = Ffn.rms (fun d => x (ix3 i r d)) (fun d => g (ix1 d)) j := by
  pointwise [normed, Ffn.rms]

theorem modulated_at (x : FVec Ideal S4x8192x1024 .f32) (g : FVec Ideal S1024 .f32) (q : FVec Ideal S8x6144 .f32) (i : Fin 4) (r : Fin 8192) (j : Fin 1024) :
    modulated x g q (ix3 i r j) = Ffn.modulated (fun d => x (ix3 i r d)) (fun d => g (ix1 d)) (fun d => q (ix2 ⟨i.val, by omega⟩ ⟨4096 + d.val, by omega⟩))
      (fun d => q (ix2 ⟨i.val, by omega⟩ ⟨3072 + d.val, by omega⟩)) j := by
  pointwise [modulated, normed_at, full, mods, Ffn.modulated]

theorem units_at (h : FVec Ideal S4x8192x1024 .f32) (w : FVec Ideal S1024x5632 .f32) (i : Fin 4) (r : Fin 8192) (f : Fin 2816) :
    units (hidden h w) (ix3 i r f) = Ffn.unit (fun d => h (ix3 i r d)) (fun d k => w (ix2 d k)) f := by
  pointwise [units, hidden, Ffn.unit, Ideal.logistic]

theorem ffn_at (x : FVec Ideal S4x8192x1024 .f32) (q : FVec Ideal S8x6144 .f32) (g : FVec Ideal S1024 .f32) (w : FVec Ideal S1024x5632 .f32) (v : FVec Ideal S2816x1024 .f32)
    (i : Fin 4) (r : Fin 8192) (j : Fin 1024) :
    ffn x q g w v (ix3 i r j) = Ffn.ffn (fun d => x (ix3 i r d)) (Ffn.modulated (fun d => x (ix3 i r d)) (fun d => g (ix1 d)) (fun d => q (ix2 ⟨i.val, by omega⟩ ⟨4096 + d.val, by omega⟩))
      (fun d => q (ix2 ⟨i.val, by omega⟩ ⟨3072 + d.val, by omega⟩))) (fun d => q (ix2 ⟨i.val, by omega⟩ ⟨5120 + d.val, by omega⟩)) (fun d k => w (ix2 d k)) (fun f d => v (ix2 f d)) j := by
  pointwise [ffn, added, units_at, full, mods, Ffn.ffn, modulated_at]

theorem row_at (x : FVec Ideal S4x8192x1024 .f32) (a b : FVec Ideal S4x8192x512 .bf16) (q : FVec Ideal S8x6144 .f32) (g : FVec Ideal S1024 .f32) (wo : FVec Ideal S1024x1024 .f32)
    (w : FVec Ideal S1024x5632 .f32) (v : FVec Ideal S2816x1024 .f32) (i : Fin 4) (r : Fin 8192) (j : Fin 1024) :
    ffn (joined x a b q wo) q g w v (ix3 i r j) = Ffn.row (fun d => x (ix3 i r d)) (fun k => a (ix3 i r k)) (fun k => b (ix3 i r k)) (fun k => q (ix2 ⟨i.val, by omega⟩ k))
      (fun d => g (ix1 d)) (fun k d => wo (ix2 k d)) (fun d k => w (ix2 d k)) (fun f d => v (ix2 f d)) j := by
  rw [ffn_at]
  simp only [joined_at, Ffn.row]

end Cert.Reference3Ideal.Out
-- ==== Proof.Ref2.lean ====
/- The reference of the layer's end, step by step, and one row of it over the extended reals. -/
module

public import proofs.«01_k».proof.Proof.MixSpec
public import proofs.«01_k».proof.Proof.Ref3
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Out

open Cert.Reference2Ideal Cert.Reference2Ideal.Gen
open Cert.Reference3Ideal.Out (mods full normed ffn)

/-- The gate columns of the two mixers. -/
def gateA (p : FVec Ideal S4x8192x2688 .f32) : FVec Ideal S4x8192x512 .f32 := extractStridedSlice S4x8192x512 ![0, 0, 1024] p slices_S4x8192x2688_S4x8192x512_0_0_1024
def gateB (p : FVec Ideal S4x8192x2688 .f32) : FVec Ideal S4x8192x512 .f32 := extractStridedSlice S4x8192x512 ![0, 0, 1536] p slices_S4x8192x2688_S4x8192x512_0_0_1536

/-- The two directions of the attention, by heads. -/
def heads (a b : FVec Ideal S4x8192x512 .f32) : FVec Ideal S4x8192x4x128 .f32 := shapeCast _ (addf a b) shapeCasts_S4x8192x512_S4x8192x4x128

/-- The rms norm of every head, with its gain. -/
def headNorm (o : FVec Ideal S4x8192x4x128 .f32) (g : FVec Ideal S128 .f32) : FVec Ideal S4x8192x4x128 .f32 :=
  mulf (mulf o (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2
      (Host.reduceAdd (mulf o o) (constant S_ .f32 0x00000000#32) reducesTo_S4x8192x4x128_S4x8192x4_d3 h_S_)) (broadcastInDim S4x8192x4x1 ![] bcast_S_S4x8192x4x1 (constant S_ .f32 0x43000000#32)))
      (broadcastInDim S4x8192x4x1 ![] bcast_S_S4x8192x4x1 (constant S_ .f32 0x358637BD#32))))))
    (broadcastInDim S4x8192x4x128 ![0, 1, 2, 3] bcast_S1x1x1x128_S4x8192x4x128_0_1_2_3 (broadcastInDim S1x1x1x128 ![3] bcast_S128_S1x1x1x128_3 g))

/-- The attention's half of the mix. -/
def gla (o : FVec Ideal S4x8192x4x128 .f32) (z : FVec Ideal S4x8192x512 .f32) (g : FVec Ideal S128 .f32) : FVec Ideal S4x8192x512 .f32 :=
  mulf (shapeCast _ (headNorm o g) shapeCasts_S4x8192x4x128_S4x8192x512)
    (mulf z (Host.divf (broadcastInDim S4x8192x512 ![] bcast_S_S4x8192x512 (constant S_ .f32 0x3F800000#32))
      (addf (broadcastInDim S4x8192x512 ![] bcast_S_S4x8192x512 (constant S_ .f32 0x3F800000#32)) (Host.exp (Host.negf z)))))

/-- The recurrence's half of the mix. -/
def lru (a b z : FVec Ideal S4x8192x512 .f32) : FVec Ideal S4x8192x512 .f32 :=
  mulf (addf a b) (mulf z (mulf (broadcastInDim S4x8192x512 ![] bcast_S_S4x8192x512 (constant S_ .f32 0x3F000000#32))
    (addf (broadcastInDim S4x8192x512 ![] bcast_S_S4x8192x512 (constant S_ .f32 0x3F800000#32))
      (Host.tanh (mulf (broadcastInDim S4x8192x512 ![] bcast_S_S4x8192x512 (constant S_ .f32 0x3F4C422A#32))
        (addf z (mulf (broadcastInDim S4x8192x512 ![] bcast_S_S4x8192x512 (constant S_ .f32 0x3D372713#32)) (mulf (mulf z z) z))))))))

/-- The stream after the mix has been projected and added through its gate. -/
def joined (x : FVec Ideal S4x8192x1024 .f32) (a b : FVec Ideal S4x8192x512 .f32) (q : FVec Ideal S8x6144 .f32) (w : FVec Ideal S1024x1024 .f32) :
    FVec Ideal S4x8192x1024 .f32 :=
  addf x (mulf (full (extractStridedSlice S4x1x1024 ![0, 0, 2048] (mods q) slices_S4x1x6144_S4x1x1024_0_0_2048))
    (Host.dotGeneral dot_S4x8192x1024_S1024x1024_S4x8192x1024_2_0_01_1_n_n none
      (concatenate S4x8192x1024 2 [⟨S4x8192x512, a⟩, ⟨S4x8192x512, b⟩] concatenates_S4x8192x512_S4x8192x512_S4x8192x1024_d2) w))

/-- The whole of it, from the arguments. -/
def result (x : FVec Ideal S4x8192x1024 .f32) (of ob hf hb : FVec Ideal S4x8192x512 .f32) (p : FVec Ideal S4x8192x2688 .f32) (q : FVec Ideal S8x6144 .f32)
    (gg : FVec Ideal S128 .f32) (g : FVec Ideal S1024 .f32) (wo : FVec Ideal S1024x1024 .f32) (w : FVec Ideal S1024x5632 .f32) (v : FVec Ideal S2816x1024 .f32)
    (fg : FVec Ideal S1024 .f32) : FVec Ideal S4x8192x1024 .f32 :=
  normed (ffn (joined x (gla (heads of ob) (gateA p) gg) (lru hf hb (gateB p)) q wo) q g w v) fg

theorem stream_eq (V0 : Valuation τ sig (Elt Ideal)) :
    Value.res_main_v47 V0 = joined (V0 (Proc.devRef .tc main_arg0)) (gla (heads (V0 (Proc.devRef .tc main_arg1)) (V0 (Proc.devRef .tc main_arg2))) (gateA (V0 (Proc.devRef .tc main_arg5))) (V0 (Proc.devRef .tc main_arg7)))
      (lru (V0 (Proc.devRef .tc main_arg3)) (V0 (Proc.devRef .tc main_arg4)) (gateB (V0 (Proc.devRef .tc main_arg5)))) (V0 (Proc.devRef .tc main_arg6)) (V0 (Proc.devRef .tc main_arg9)) := rfl

theorem added_eq (V0 : Valuation τ sig (Elt Ideal)) :
    Value.res_main_v75 V0 = ffn (Value.res_main_v47 V0) (V0 (Proc.devRef .tc main_arg6)) (V0 (Proc.devRef .tc main_arg8)) (V0 (Proc.devRef .tc main_arg10)) (V0 (Proc.devRef .tc main_arg11)) := rfl

theorem res_eq (m : (ℓ : Loc nD τ sig) → Buf (Elt Ideal) ℓ) (c : Dev nD) :
    normed (Value.res_main_v75 (Idealize.ShloMosaic.StableHlo.launchContents m c)) (Idealize.ShloMosaic.StableHlo.launchContents m c (Proc.devRef .tc main_arg12))
      = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) := by
  rw [added_eq, stream_eq]
  rfl

theorem gla_at (of ob : FVec Ideal S4x8192x512 .f32) (z : FVec Ideal S4x8192x512 .f32) (g : FVec Ideal S128 .f32) (i : Fin 4) (r : Fin 8192) (k : Fin 512) :
    gla (heads of ob) z g (ix3 i r k) = Ffn.gla (fun k => of (ix3 i r k) + ob (ix3 i r k)) (fun k => z (ix3 i r k)) (fun d => g (ix1 d)) k := by
  pointwise [gla, headNorm, heads, Ffn.gla, Ffn.head, Ideal.logistic, Nat.div_add_mod']

theorem lru_at (a b z : FVec Ideal S4x8192x512 .f32) (i : Fin 4) (r : Fin 8192) (k : Fin 512) :
    lru a b z (ix3 i r k) = Ffn.lru (fun k => a (ix3 i r k) + b (ix3 i r k)) (fun k => z (ix3 i r k)) k := by
  pointwise [lru, Ffn.lru]

theorem joined_at (x : FVec Ideal S4x8192x1024 .f32) (a b : FVec Ideal S4x8192x512 .f32) (q : FVec Ideal S8x6144 .f32) (w : FVec Ideal S1024x1024 .f32)
    (i : Fin 4) (r : Fin 8192) (j : Fin 1024) :
    joined x a b q w (ix3 i r j) = Ffn.joined (fun d => x (ix3 i r d)) (fun d => q (ix2 ⟨i.val, by omega⟩ ⟨2048 + d.val, by omega⟩)) (fun k => a (ix3 i r k)) (fun k => b (ix3 i r k))
      (fun k d => w (ix2 k d)) j := by
  pointwise [joined, full, mods, Ffn.joined]

theorem gateA_at (p : FVec Ideal S4x8192x2688 .f32) (i : Fin 4) (r : Fin 8192) (k : Fin 512) : gateA p (ix3 i r k) = p (ix3 i r ⟨1024 + k.val, by omega⟩) := by
  pointwise [gateA]

theorem gateB_at (p : FVec Ideal S4x8192x2688 .f32) (i : Fin 4) (r : Fin 8192) (k : Fin 512) : gateB p (ix3 i r k) = p (ix3 i r ⟨1536 + k.val, by omega⟩) := by
  pointwise [gateB]

theorem result_at (x : FVec Ideal S4x8192x1024 .f32) (of ob hf hb : FVec Ideal S4x8192x512 .f32) (p : FVec Ideal S4x8192x2688 .f32) (q : FVec Ideal S8x6144 .f32)
    (gg : FVec Ideal S128 .f32) (g : FVec Ideal S1024 .f32) (wo : FVec Ideal S1024x1024 .f32) (w : FVec Ideal S1024x5632 .f32) (v : FVec Ideal S2816x1024 .f32)
    (fg : FVec Ideal S1024 .f32) (i : Fin 4) (r : Fin 8192) (j : Fin 1024) :
    result x of ob hf hb p q gg g wo w v fg (ix3 i r j) = Ffn.rms (Ffn.row (fun d => x (ix3 i r d))
      (Ffn.gla (fun k => of (ix3 i r k) + ob (ix3 i r k)) (fun k => p (ix3 i r ⟨1024 + k.val, by omega⟩)) (fun d => gg (ix1 d)))
      (Ffn.lru (fun k => hf (ix3 i r k) + hb (ix3 i r k)) (fun k => p (ix3 i r ⟨1536 + k.val, by omega⟩)))
      (fun k => q (ix2 ⟨i.val, by omega⟩ k)) (fun d => g (ix1 d)) (fun k d => wo (ix2 k d)) (fun d k => w (ix2 d k)) (fun f d => v (ix2 f d))) (fun d => fg (ix1 d)) j := by
  unfold result
  rw [Cert.Reference3Ideal.Out.normed_at]
  simp only [Cert.Reference3Ideal.Out.ffn_at, joined_at, gla_at, lru_at, gateA_at, gateB_at, Ffn.row]

end Cert.Reference2Ideal.Out
-- ==== Proof.Out3.lean ====
/- What each grid point of the last call of layer 0 reads and writes, and the array it leaves. -/
module

public import proofs.«01_k».proof.Proof.Ker3
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Out

open Cert.Kernel3Ideal Cert.Kernel3Ideal.Gen

/-- The rows after the out-projection. -/
theorem joined_at (x0 : Vec Ideal S1x512x1024 .f32) (x1 x2 : Vec Ideal S1x512x512 .bf16) (x3 : Vec Ideal S1x1x6144 .f32) (x5 : Vec Ideal S1024x1024 .bf16)
    (r : Fin 512) (j : Fin 1024) :
    k0_pay3 (View.ld x0 r0_0) (View.ld x1 r0_1) (View.ld x2 r0_1) (View.ld x5 r0_2) (View.ld x5 r0_3) (View.ld x3 r0_4) (ix2 r j)
      = Ffn.joined (fun d => x0 (ix3 0 r d)) (fun d => x3 (ix3 0 0 ⟨2048 + d.val, by omega⟩)) (fun k => x1 (ix3 0 r k)) (fun k => x2 (ix3 0 r k)) (fun k d => x5 (ix2 k d)) j := by
  rw [pay3_at]
  pointwise [Ffn.joined]

/-- The modulated rows. -/
theorem modulated_at (x : FVec Ideal S512x1024 .f32) (x3 : Vec Ideal S1x1x6144 .f32) (x4 : Vec Ideal S1x1024 .f32) (r : Fin 512) (X : Fin 1024 → EReal)
    (hX : ∀ d, x (ix2 r d) = X d) (j : Fin 1024) :
    normed x (View.ld x4 r0_5) (ix2 r j) * (1 + k0_pay5 (View.ld x3 r0_4) (ix2 0 j)) + k0_pay4 (View.ld x3 r0_4) (ix2 0 j)
      = Ffn.modulated X (fun d => x4 (ix2 0 d)) (fun d => x3 (ix3 0 0 ⟨4096 + d.val, by omega⟩)) (fun d => x3 (ix3 0 0 ⟨3072 + d.val, by omega⟩)) j := by
  rw [normed_at]
  simp only [hX]
  pointwise [Ffn.modulated, k0_pay4, k0_pay5, k0_pay2]

/-- A block written whole holds what was written. -/
theorem canon_one (p : Vec Ideal S1x512x1024 .f32) (y : S1x512x1024.Idx) : View.canon [⟨r0_0, p⟩] y = p y := by
  refine View.canon_apply_of_pieces p _ ?_ y (cover0_8 _ y)
  intro pc hpc
  rcases List.mem_cons.mp hpc with rfl | hpc
  · intro x
    refine congrArg p (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · nomatch hpc

theorem pay1_at (v : FVec Ideal S512x1024 .f32) (r : Fin 512) (j : Fin 1024) : k0_pay1 v (ix3 0 r j) = v (ix2 r j) := by
  pointwise [k0_pay1]

/-- What a point writes, entry by entry. -/
theorem block_at (x0 : Vec Ideal S1x512x1024 .f32) (x1 x2 : Vec Ideal S1x512x512 .bf16) (x3 : Vec Ideal S1x1x6144 .f32) (x4 : Vec Ideal S1x1024 .f32)
    (x5 : Vec Ideal S1024x1024 .bf16) (x6 : Vec Ideal S1024x5632 .bf16) (x7 : Vec Ideal S2816x1024 .bf16) (r : Fin 512) (j : Fin 1024) :
    out0_8 x0 x1 x2 x3 x4 x5 x6 x7 (ix3 0 r j) = Ffn.row (fun d => x0 (ix3 0 r d)) (fun k => x1 (ix3 0 r k)) (fun k => x2 (ix3 0 r k)) (fun k => x3 (ix3 0 0 k)) (fun d => x4 (ix2 0 d))
      (fun k d => x5 (ix2 k d)) (fun d k => x6 (ix2 d k)) (fun f d => x7 (ix2 f d)) j := by
  unfold out0_8
  rw [canon_one, pay1_at, pay6_eq, pay7_at _ _ _ _ _ _ _ _ _ _ _ r j _ (fun d => (modulated_at _ x3 x4 r _ (joined_at x0 x1 x2 x3 x5 r) d).symm), joined_at]
  unfold Ffn.row Ffn.ffn
  rw [Ffn.split2816]
  pointwise [Ffn.unit, k0_pay2, ← Nat.add_assoc]

/-- The block each window reads at a point. -/
theorem idx : ∀ t : Fin cfg0.N,
    win0_0.index t = ![t.val / 16, t.val % 16, 0] ∧ win0_1.index t = ![t.val / 16, t.val % 16, 0] ∧ win0_2.index t = ![t.val / 16, t.val % 16, 0]
    ∧ win0_3.index t = ![t.val / 16, 0, 0] ∧ win0_4.index t = ![0, 0] ∧ win0_5.index t = ![0, 0] ∧ win0_6.index t = ![0, 0] ∧ win0_7.index t = ![0, 0]
    ∧ win0_8.index t = ![t.val / 16, t.val % 16, 0] :=
  (by decide +kernel : ∀ t : Fin grid0.N, _)

theorem lt_N (t : Fin cfg0.N) : t.val < 64 := lt_of_lt_of_eq t.isLt N_0

variable (m : (ℓ : Loc nD τ sig) → Buf (Elt Ideal) ℓ) (c : Dev nD)

abbrev X : FVec Ideal S4x8192x1024 .f32 := m ((c : Thread nD τ).loc main_arg0)
abbrev MA : FVec Ideal S4x8192x512 .bf16 := m ((c : Thread nD τ).loc main_arg1)
abbrev MB : FVec Ideal S4x8192x512 .bf16 := m ((c : Thread nD τ).loc main_arg2)
abbrev Q : FVec Ideal S8x6144 .f32 := m ((c : Thread nD τ).loc main_arg3)
abbrev G : FVec Ideal S1024 .f32 := m ((c : Thread nD τ).loc main_arg4)
abbrev WO : FVec Ideal S1024x1024 .f32 := m ((c : Thread nD τ).loc main_arg5)
abbrev WI : FVec Ideal S1024x5632 .f32 := m ((c : Thread nD τ).loc main_arg6)
abbrev WF : FVec Ideal S2816x1024 .f32 := m ((c : Thread nD τ).loc main_arg7)

theorem blk0 (t : Fin cfg0.N) (r : Fin 512) (l : Fin 1024) :
    (iblk m c 0 t : Vec Ideal S1x512x1024 .f32) (ix3 0 r l) = X m c (ix3 ⟨t.val / 16, by have := lt_N t; omega⟩ ⟨512 * (t.val % 16) + r.val, by omega⟩ l) := by
  blk_ext! [iblk, V, idx t]

theorem blk1 (t : Fin cfg0.N) (r : Fin 512) (l : Fin 512) :
    (iblk m c 1 t : Vec Ideal S1x512x512 .bf16) (ix3 0 r l) = MA m c (ix3 ⟨t.val / 16, by have := lt_N t; omega⟩ ⟨512 * (t.val % 16) + r.val, by omega⟩ l) := by
  blk_ext! [iblk, V, idx t]

theorem blk2 (t : Fin cfg0.N) (r : Fin 512) (l : Fin 512) :
    (iblk m c 2 t : Vec Ideal S1x512x512 .bf16) (ix3 0 r l) = MB m c (ix3 ⟨t.val / 16, by have := lt_N t; omega⟩ ⟨512 * (t.val % 16) + r.val, by omega⟩ l) := by
  blk_ext! [iblk, V, idx t]

theorem mod3 : (V m c main_v0 : FVec Ideal S8x1x6144 .f32) = fun i => Q m c (ix2 (i 0) (i 2)) := by
  entry_read
  funext i
  pointwise

theorem gain : (V m c main_v4 : FVec Ideal S1x1024 .f32) = fun i => G m c (ix1 (i 1)) := by
  entry_read
  funext i
  pointwise

theorem wo : (V m c main_v2 : FVec Ideal S1024x1024 .bf16) = WO m c := by
  entry_read
  funext i
  rfl

theorem wi : (V m c main_v3 : FVec Ideal S1024x5632 .bf16) = WI m c := by
  entry_read
  funext i
  rfl

theorem wf : (V m c main_v1 : FVec Ideal S2816x1024 .bf16) = WF m c := by
  entry_read
  funext i
  rfl

theorem blk3 (t : Fin cfg0.N) (k : Fin 6144) :
    (iblk m c 3 t : Vec Ideal S1x1x6144 .f32) (ix3 0 0 k) = Q m c (ix2 ⟨t.val / 16, by have := lt_N t; omega⟩ k) := by
  have e : (V m c main_v0 : FVec Ideal S8x1x6144 .f32) (ix3 ⟨t.val / 16, by have := lt_N t; omega⟩ 0 k) = Q m c (ix2 ⟨t.val / 16, by have := lt_N t; omega⟩ k) := by
    rw [mod3]
    pointwise
  rw [← e]
  blk_ext [iblk, idx t]

theorem blk4 (t : Fin cfg0.N) (d : Fin 1024) : (iblk m c 4 t : Vec Ideal S1x1024 .f32) (ix2 0 d) = G m c (ix1 d) := by
  have e : (V m c main_v4 : FVec Ideal S1x1024 .f32) (ix2 0 d) = G m c (ix1 d) := by
    rw [gain]
    pointwise
  rw [← e]
  blk_ext [iblk, idx t]

theorem blk5 (t : Fin cfg0.N) (i : Fin 1024) (j : Fin 1024) : (iblk m c 5 t : Vec Ideal S1024x1024 .bf16) (ix2 i j) = WO m c (ix2 i j) := by
  rw [← wo]
  blk_ext [iblk, idx t]

theorem blk6 (t : Fin cfg0.N) (i : Fin 1024) (j : Fin 5632) : (iblk m c 6 t : Vec Ideal S1024x5632 .bf16) (ix2 i j) = WI m c (ix2 i j) := by
  rw [← wi]
  blk_ext [iblk, idx t]

theorem blk7 (t : Fin cfg0.N) (i : Fin 2816) (j : Fin 1024) : (iblk m c 7 t : Vec Ideal S2816x1024 .bf16) (ix2 i j) = WF m c (ix2 i j) := by
  rw [← wf]
  blk_ext [iblk, idx t]

/-- The array after the run, entry by entry. -/
theorem final (R : FVec Ideal S4x8192x1024 .f32)
    (hR : ∀ (i : Fin 4) (r : Fin 8192) (j : Fin 1024), R (ix3 i r j) = Ffn.row (fun d => X m c (ix3 i r d)) (fun k => MA m c (ix3 i r k)) (fun k => MB m c (ix3 i r k))
      (fun k => Q m c (ix2 ⟨i.val, by omega⟩ k)) (fun d => G m c (ix1 d)) (fun k d => WO m c (ix2 k d)) (fun d k => WI m c (ix2 d k)) (fun f d => WF m c (ix2 f d)) j) :
    (dats m 0 c).arrAt 8 cfg0.N = R := by
  refine (dats m 0 c).arrAt_eq_of_covers 8 _ (by decide +kernel) fun t hf y => ?_
  blk_simp
  rw [after0_8]
  revert y
  intro (y : S1x512x1024.Idx)
  obtain ⟨z, r, l, rfl⟩ : ∃ (z : Fin 1) (r : Fin 512) (l : Fin 1024), y = ix3 z r l := ⟨y 0, y 1, y 2, eq_ix3 y⟩
  obtain rfl : z = 0 := Fin.ext (by omega)
  have h := lt_N t
  refine (block_at (iblk m c 0 t) (iblk m c 1 t) (iblk m c 2 t) (iblk m c 3 t) (iblk m c 4 t) (iblk m c 5 t) (iblk m c 6 t) (iblk m c 7 t) r l).trans ?_
  simp only [blk0, blk1, blk2, blk3, blk4, blk5, blk6, blk7]
  refine (hR ⟨t.val / 16, by omega⟩ ⟨512 * (t.val % 16) + r.val, by omega⟩ l).symm.trans ?_
  blk_ext [idx t]

end Cert.Kernel3Ideal.Out
-- ==== Proof.Ker4.lean ====
/- What a point of the in-projection of layer 1 leaves in its output block, entry by entry. -/
module

public import proofs.«01_k».proof.Proof.FfnSpec
public import proofs.«01_k».proof.Proof.Gen.Kernel4Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

theorem pay4_at (x : Vec Ideal S1x512x1024 .f32) (q : Vec Ideal S1x1x6144 .f32) (g : Vec Ideal S1x1024 .f32) (r : Fin 512) (d : Fin 1024) :
    k0_pay4 x q g (ix2 r d) = Ffn.modulated (fun d => x (ix3 0 r d)) (fun d => g (ix2 0 d)) (fun d => q (ix3 0 0 ⟨1024 + d.val, by omega⟩))
      (fun d => q (ix3 0 0 ⟨d.val, by omega⟩)) d := by
  pointwise [k0_pay4, Ffn.modulated, Ffn.rms]

theorem pay5_at (x : Vec Ideal S1x512x1024 .f32) (q : Vec Ideal S1x1x6144 .f32) (g : Vec Ideal S1x1024 .f32) (w : Vec Ideal S1024x768 .bf16) (r : Fin 512) (l : Fin 768) :
    k0_pay5 x q g w (ix3 0 r l) = ∑ d, k0_pay4 x q g (ix2 r d) * w (ix2 d l) := by
  pointwise [k0_pay5]

theorem pay6_at (x : Vec Ideal S1x512x1024 .f32) (q : Vec Ideal S1x1x6144 .f32) (g : Vec Ideal S1x1024 .f32) (w : Vec Ideal S1024x768 .bf16) (r : Fin 512) (l : Fin 768) :
    k0_pay1 (k0_pay6 x q g w) (ix3 0 r l) = ∑ d, k0_pay4 x q g (ix2 r d) * w (ix2 d l) := by
  pointwise [k0_pay6, k0_pay1]

theorem pay2_at (h : FVec Ideal S512x1024 .bf16) (w : Vec Ideal S1024x768 .bf16) (r : Fin 512) (l : Fin 768) :
    k0_pay2 h w (ix3 0 r l) = ∑ d, h (ix2 r d) * w (ix2 d l) := by
  pointwise [k0_pay2]

theorem pay3_at (h : FVec Ideal S512x1024 .bf16) (w : Vec Ideal S1024x384 .bf16) (r : Fin 512) (l : Fin 384) :
    k0_pay3 h w (ix3 0 r l) = ∑ d, h (ix2 r d) * w (ix2 d l) := by
  pointwise [k0_pay3]

/-- The four column pieces a point writes. -/
def pieces (x : Vec Ideal S1x512x1024 .f32) (q : Vec Ideal S1x1x6144 .f32) (g : Vec Ideal S1x1024 .f32) (w : Vec Ideal S1024x2688 .bf16) : List (View.Piece (Elt Ideal) S1x512x2688 .f32) :=
    [⟨Rect.unit (s := S1x512x2688) ![0, 0, 2304] ![1, 512, 384] inb_S1x512x2688_S1x512x384_0_0_2304,
      k0_pay3 (k0_pay4 x q g) (View.ld w (Rect.unit ![0, 2304] ![1024, 384] inb_S1024x2688_S1024x384_0_2304))⟩,
     ⟨Rect.unit (s := S1x512x2688) ![0, 0, 1536] ![1, 512, 768] inb_S1x512x2688_S1x512x768_0_0_1536,
      k0_pay2 (k0_pay4 x q g) (View.ld w (Rect.unit ![0, 1536] ![1024, 768] inb_S1024x2688_S1024x768_0_1536))⟩,
     ⟨Rect.unit (s := S1x512x2688) ![0, 0, 768] ![1, 512, 768] inb_S1x512x2688_S1x512x768_0_0_768,
      k0_pay1 (k0_pay6 x q g (View.ld w (Rect.unit ![0, 768] ![1024, 768] inb_S1024x2688_S1024x768_0_768)))⟩,
     ⟨Rect.unit (s := S1x512x2688) ![0, 0, 0] ![1, 512, 768] inb_S1x512x2688_S1x512x768_0_0_0,
      k0_pay5 x q g (View.ld w (Rect.unit ![0, 0] ![1024, 768] inb_S1024x2688_S1024x768_0_0))⟩]

/-- One entry of the product. -/
def entry (x : Vec Ideal S1x512x1024 .f32) (q : Vec Ideal S1x1x6144 .f32) (g : Vec Ideal S1x1024 .f32) (w : Vec Ideal S1024x2688 .bf16) (r : Fin 512) (j : Fin 2688) : EReal :=
  ∑ d, k0_pay4 x q g (ix2 r d) * w (ix2 d j)

theorem place (G : Fin 512 → Fin 2688 → EReal) (y : S1x512x2688.Idx) (r : Fin 512) (j : Fin 2688) (h1 : (y 1).val = r.val) (h2 : (y 2).val = j.val) : G (y 1) (y 2) = G r j := by
  rw [show (y 1 : Fin 512) = r from Fin.ext h1, show (y 2 : Fin 2688) = j from Fin.ext h2]

theorem canon_at (x : Vec Ideal S1x512x1024 .f32) (q : Vec Ideal S1x1x6144 .f32) (g : Vec Ideal S1x1024 .f32) (w : Vec Ideal S1024x2688 .bf16) (y : S1x512x2688.Idx) :
    View.canon (pieces x q g w) y = entry x q g w (y 1) (y 2) := by
  refine View.canon_apply_of_pieces (fun y => entry x q g w (y 1) (y 2)) _ ?_ y (View.cover_of_tiledBy (pieces x q g w) ![1, 512, 384] (by sl_kernel_rfl) y)
  intro pc hpc
  rcases List.mem_cons.mp hpc with rfl | hpc
  · intro (y : Shape.Idx ⟨3, ![1, 512, 384]⟩)
    obtain ⟨z, r, l, rfl⟩ : ∃ (z : Fin 1) (r : Fin 512) (l : Fin 384), y = ix3 z r l := ⟨y 0, y 1, y 2, eq_ix3 y⟩
    obtain rfl : z = 0 := Fin.ext (by omega)
    refine (pay3_at _ _ r l).trans (Eq.trans ?_ (place (entry x q g w) _ r ⟨2304 + l.val, by omega⟩ (by show 0 + 1 * r.val = r.val; omega) (by show 2304 + 1 * l.val = 2304 + l.val; omega)).symm)
    pointwise [entry]
  rcases List.mem_cons.mp hpc with rfl | hpc
  · intro (y : Shape.Idx ⟨3, ![1, 512, 768]⟩)
    obtain ⟨z, r, l, rfl⟩ : ∃ (z : Fin 1) (r : Fin 512) (l : Fin 768), y = ix3 z r l := ⟨y 0, y 1, y 2, eq_ix3 y⟩
    obtain rfl : z = 0 := Fin.ext (by omega)
    refine (pay2_at _ _ r l).trans (Eq.trans ?_ (place (entry x q g w) _ r ⟨1536 + l.val, by omega⟩ (by show 0 + 1 * r.val = r.val; omega) (by show 1536 + 1 * l.val = 1536 + l.val; omega)).symm)
    pointwise [entry]
  rcases List.mem_cons.mp hpc with rfl | hpc
  · intro (y : Shape.Idx ⟨3, ![1, 512, 768]⟩)
    obtain ⟨z, r, l, rfl⟩ : ∃ (z : Fin 1) (r : Fin 512) (l : Fin 768), y = ix3 z r l := ⟨y 0, y 1, y 2, eq_ix3 y⟩
    obtain rfl : z = 0 := Fin.ext (by omega)
    refine (pay6_at _ _ _ _ r l).trans (Eq.trans ?_ (place (entry x q g w) _ r ⟨768 + l.val, by omega⟩ (by show 0 + 1 * r.val = r.val; omega) (by show 768 + 1 * l.val = 768 + l.val; omega)).symm)
    pointwise [entry]
  rcases List.mem_cons.mp hpc with rfl | hpc
  · intro (y : Shape.Idx ⟨3, ![1, 512, 768]⟩)
    obtain ⟨z, r, l, rfl⟩ : ∃ (z : Fin 1) (r : Fin 512) (l : Fin 768), y = ix3 z r l := ⟨y 0, y 1, y 2, eq_ix3 y⟩
    obtain rfl : z = 0 := Fin.ext (by omega)
    refine (pay5_at _ _ _ _ r l).trans (Eq.trans ?_ (place (entry x q g w) _ r ⟨0 + l.val, by omega⟩ (by show 0 + 1 * r.val = r.val; omega) (by show 0 + 1 * l.val = 0 + l.val; omega)).symm)
    pointwise [entry]
  · nomatch hpc

variable (m : (ℓ : Loc nD τ sig) → Buf (Elt Ideal) ℓ) (c : Dev nD)

set_option maxHeartbeats 1000000 in
theorem out_any (t : Fin cfg0.N) (Z : Vec Ideal S1x512x2688 .f32) (hZ : View.canon (pieces (iblk m c 0 t) (iblk m c 1 t) (iblk m c 2 t) (iblk m c 3 t)) = Z) :
    outsAt0 m c t = Z := by
  unfold outsAt0
  frame_open
  simp (disch := decide) only [↓View.readCov_skip, View.readCov_cons_toLoadRect, View.read_writes_junk_eq_canon, View.canon_cons_unit_lit',
        View.ld_unit_lit', View.readCov_unit_lit', View.readCov_cons_unit_lit', View.readAt_eq_ld,
        Memref.IsWhole.read_unread, read_unread_whole]
  unfold pieces at hZ
  exact hZ

/-- What a point writes, entry by entry. -/
theorem block_at (x : Vec Ideal S1x512x1024 .f32) (q : Vec Ideal S1x1x6144 .f32) (g : Vec Ideal S1x1024 .f32) (w : Vec Ideal S1024x2688 .bf16) (r : Fin 512) (j : Fin 2688) :
    View.canon (pieces x q g w) (ix3 0 r j) = ∑ d, Ffn.modulated (fun d => x (ix3 0 r d)) (fun d => g (ix2 0 d)) (fun d => q (ix3 0 0 ⟨1024 + d.val, by omega⟩))
      (fun d => q (ix3 0 0 ⟨d.val, by omega⟩)) d * w (ix2 d j) := by
  refine (canon_at x q g w (ix3 0 r j)).trans ?_
  show entry x q g w r j = _
  simp only [entry, pay4_at]

end Cert.Kernel4Ideal.Out
-- ==== Proof.Ref4.lean ====
/- The reference of the in-projection of layer 1, step by step, entry by entry. -/
module

public import proofs.«01_k».proof.Proof.Ref3
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem

namespace Cert.Reference4Ideal.Out

open Cert.Reference4Ideal Cert.Reference4Ideal.Gen
open Cert.Reference3Ideal.Out (mods full normed normed_at)

/-- The norm of every row, modulated. -/
def modulated (x : FVec Ideal S4x8192x1024 .f32) (q : FVec Ideal S8x6144 .f32) (g : FVec Ideal S1024 .f32) : FVec Ideal S4x8192x1024 .f32 :=
  addf (mulf (normed x g) (full (addf (broadcastInDim S4x1x1024 ![] bcast_S_S4x1x1024 (constant S_ .f32 0x3F800000#32))
    (extractStridedSlice S4x1x1024 ![0, 0, 1024] (mods q) slices_S4x1x6144_S4x1x1024_0_0_1024))))
    (full (extractStridedSlice S4x1x1024 ![0, 0, 0] (mods q) slices_S4x1x6144_S4x1x1024_0_0_0))

/-- The projection. -/
def proj (h : FVec Ideal S4x8192x1024 .f32) (w : FVec Ideal S1024x2592 .f32) : FVec Ideal S4x8192x2592 .f32 :=
  Host.dotGeneral dot_S4x8192x1024_S1024x2592_S4x8192x2592_2_0_01_1_n_n none h w

/-- Its columns in the order of the result, the queries scaled. -/
def pieces (p : FVec Ideal S4x8192x2592 .f32) : FVec Ideal S4x8192x2688 .f32 :=
  concatenate S4x8192x2688 2 [⟨S4x8192x256, mulf (extractStridedSlice S4x8192x256 ![0, 0, 0] p slices_S4x8192x2592_S4x8192x256_0_0_0) (broadcastInDim S4x8192x256 ![] bcast_S_S4x8192x256 (constant S_ .f32 0x3E000000#32))⟩,
    ⟨S4x8192x256, extractStridedSlice S4x8192x256 ![0, 0, 256] p slices_S4x8192x2592_S4x8192x256_0_0_256⟩,
    ⟨S4x8192x512, extractStridedSlice S4x8192x512 ![0, 0, 512] p slices_S4x8192x2592_S4x8192x512_0_0_512⟩,
    ⟨S4x8192x512, extractStridedSlice S4x8192x512 ![0, 0, 1024] p slices_S4x8192x2592_S4x8192x512_0_0_1024⟩,
    ⟨S4x8192x512, extractStridedSlice S4x8192x512 ![0, 0, 1568] p slices_S4x8192x2592_S4x8192x512_0_0_1568⟩,
    ⟨S4x8192x512, extractStridedSlice S4x8192x512 ![0, 0, 2080] p slices_S4x8192x2592_S4x8192x512_0_0_2080⟩,
    ⟨S4x8192x32, extractStridedSlice S4x8192x32 ![0, 0, 1536] p slices_S4x8192x2592_S4x8192x32_0_0_1536⟩,
    ⟨S4x8192x96, broadcastInDim S4x8192x96 ![] bcast_S_S4x8192x96 (constant S_ .f32 0x00000000#32)⟩]
    concatenates_S4x8192x256_S4x8192x256_S4x8192x512_S4x8192x512_S4x8192x512_S4x8192x512_S4x8192x32_S4x8192x96_S4x8192x2688_d2

/-- The whole of it, from the arguments. -/
def result (x : FVec Ideal S4x8192x1024 .f32) (q : FVec Ideal S8x6144 .f32) (g : FVec Ideal S1024 .f32) (w : FVec Ideal S1024x2592 .f32) : FVec Ideal S4x8192x2688 .f32 :=
  pieces (proj (modulated x q g) w)

theorem res_eq (m : (ℓ : Loc nD τ sig) → Buf (Elt Ideal) ℓ) (c : Dev nD) :
    Value.res_main_v38 m c = result (m ((c.tc : Thread nD τ).loc main_arg0)) (m ((c.tc : Thread nD τ).loc main_arg1)) (m ((c.tc : Thread nD τ).loc main_arg2))
      (m ((c.tc : Thread nD τ).loc main_arg3)) := rfl

theorem modulated_at (x : FVec Ideal S4x8192x1024 .f32) (q : FVec Ideal S8x6144 .f32) (g : FVec Ideal S1024 .f32) (i : Fin 4) (r : Fin 8192) (d : Fin 1024) :
    modulated x q g (ix3 i r d) = Ffn.modulated (fun d => x (ix3 i r d)) (fun d => g (ix1 d)) (fun d => q (ix2 ⟨i.val, by omega⟩ ⟨1024 + d.val, by omega⟩))
      (fun d => q (ix2 ⟨i.val, by omega⟩ ⟨d.val, by omega⟩)) d := by
  pointwise [modulated, normed_at, full, mods, Ffn.modulated]

theorem proj_at (h : FVec Ideal S4x8192x1024 .f32) (w : FVec Ideal S1024x2592 .f32) (i : Fin 4) (r : Fin 8192) (j : Fin 2592) :
    proj h w (ix3 i r j) = ∑ d, h (ix3 i r d) * w (ix2 d j) := by
  pointwise [proj]

end Cert.Reference4Ideal.Out
-- ==== Proof.Out4.lean ====
/- What each grid point of the in-projection of layer 1 reads and writes, and the array it leaves. -/
module

public import proofs.«01_k».proof.Proof.Ker4
public import proofs.«01_k».proof.Proof.Ref4
public import proofs.«01_k».proof.Proof.Row
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

/-- The weights' columns in the order of the result, the queries' scaled. -/
def weights (w : FVec Ideal S1024x2592 .f32) : FVec Ideal S1024x2688 .f32 :=
  concatenate S1024x2688 1 [⟨S1024x256, mulf (extractStridedSlice S1024x256 ![0, 0] w slices_S1024x2592_S1024x256_0_0) (broadcastInDim S1024x256 ![] bcast_S_S1024x256 (constant S_ .f32 0x3E000000#32))⟩,
    ⟨S1024x256, extractStridedSlice S1024x256 ![0, 256] w slices_S1024x2592_S1024x256_0_256⟩,
    ⟨S1024x512, extractStridedSlice S1024x512 ![0, 512] w slices_S1024x2592_S1024x512_0_512⟩,
    ⟨S1024x512, extractStridedSlice S1024x512 ![0, 1024] w slices_S1024x2592_S1024x512_0_1024⟩,
    ⟨S1024x512, extractStridedSlice S1024x512 ![0, 1568] w slices_S1024x2592_S1024x512_0_1568⟩,
    ⟨S1024x512, extractStridedSlice S1024x512 ![0, 2080] w slices_S1024x2592_S1024x512_0_2080⟩,
    ⟨S1024x32, extractStridedSlice S1024x32 ![0, 1536] w slices_S1024x2592_S1024x32_0_1536⟩,
    ⟨S1024x96, broadcastInDim S1024x96 ![] bcast_S_S1024x96 (constant S_ .f32 0x00000000#32)⟩]
    concatenates_S1024x256_S1024x256_S1024x512_S1024x512_S1024x512_S1024x512_S1024x32_S1024x96_S1024x2688_d1

/-- Scaling a sum by an eighth scales its terms. -/
theorem sum_scaled (f : Fin 1024 → EReal) : (∑ d, f d) * Ideal.ofBits .f32 0x3E000000#32 = ∑ d, f d * Ideal.ofBits .f32 0x3E000000#32 := by
  have h0 : (0 : EReal) ≤ Ideal.ofBits .f32 0x3E000000#32 := by
    rw [Attn.Row.eighth]
    exact EReal.coe_nonneg.mpr (by norm_num)
  have h1 : Ideal.ofBits .f32 0x3E000000#32 ≠ ⊤ := by
    rw [Attn.Row.eighth]
    exact EReal.coe_ne_top _
  exact map_sum (⟨⟨fun a => a * Ideal.ofBits .f32 0x3E000000#32, zero_mul _⟩, fun a b => EReal.right_distrib_of_nonneg_of_ne_top h0 h1 a b⟩ : EReal →+ EReal) f _

/-- The reference's columns are the products with the reordered weights. -/
theorem col_at (p : FVec Ideal Cert.Reference4Ideal.S4x8192x2592 .f32) (w : FVec Ideal S1024x2592 .f32) (i : Fin 4) (r : Fin 8192) (h : Fin 1024 → EReal)
    (hp : ∀ e : Fin 2592, p (ix3 i r e) = ∑ d, h d * w (ix2 d e)) (j : Fin 2688) :
    Cert.Reference4Ideal.Out.pieces p (ix3 i r j) = ∑ d, h d * weights w (ix2 d j) := by
  by_cases c0 : j.val < 256
  · pointwise [Cert.Reference4Ideal.Out.pieces, weights, hp, c0, sum_scaled, mul_assoc]
  by_cases c1 : j.val - 256 < 256
  · pointwise [Cert.Reference4Ideal.Out.pieces, weights, hp, c0, c1]
  by_cases c2 : j.val - 256 - 256 < 512
  · pointwise [Cert.Reference4Ideal.Out.pieces, weights, hp, c0, c1, c2]
  by_cases c3 : j.val - 256 - 256 - 512 < 512
  · pointwise [Cert.Reference4Ideal.Out.pieces, weights, hp, c0, c1, c2, c3]
  by_cases c4 : j.val - 256 - 256 - 512 - 512 < 512
  · pointwise [Cert.Reference4Ideal.Out.pieces, weights, hp, c0, c1, c2, c3, c4]
  by_cases c5 : j.val - 256 - 256 - 512 - 512 - 512 < 512
  · pointwise [Cert.Reference4Ideal.Out.pieces, weights, hp, c0, c1, c2, c3, c4, c5]
  by_cases c6 : j.val - 256 - 256 - 512 - 512 - 512 - 512 < 32
  · pointwise [Cert.Reference4Ideal.Out.pieces, weights, hp, c0, c1, c2, c3, c4, c5, c6]
  pointwise [Cert.Reference4Ideal.Out.pieces, weights, c0, c1, c2, c3, c4, c5, c6, mul_zero, Finset.sum_const_zero]

/-- The block each window reads at a point. -/
theorem idx : ∀ t : Fin cfg0.N,
    win0_0.index t = ![t.val / 16, t.val % 16, 0] ∧ win0_1.index t = ![t.val / 16, 0, 0] ∧ win0_2.index t = ![0, 0] ∧ win0_3.index t = ![0, 0]
    ∧ win0_4.index t = ![t.val / 16, t.val % 16, 0] :=
  (by decide +kernel : ∀ t : Fin grid0.N, _)

theorem lt_N (t : Fin cfg0.N) : t.val < 64 := lt_of_lt_of_eq t.isLt N_0

variable (m : (ℓ : Loc nD τ sig) → Buf (Elt Ideal) ℓ) (c : Dev nD)

abbrev X : FVec Ideal S4x8192x1024 .f32 := m ((c : Thread nD τ).loc main_arg0)
abbrev Q : FVec Ideal S8x6144 .f32 := m ((c : Thread nD τ).loc main_arg1)
abbrev G : FVec Ideal S1024 .f32 := m ((c : Thread nD τ).loc main_arg2)
abbrev W : FVec Ideal S1024x2592 .f32 := m ((c : Thread nD τ).loc main_arg3)

theorem blk0 (t : Fin cfg0.N) (r : Fin 512) (l : Fin 1024) :
    (iblk m c 0 t : Vec Ideal S1x512x1024 .f32) (ix3 0 r l) = X m c (ix3 ⟨t.val / 16, by have := lt_N t; omega⟩ ⟨512 * (t.val % 16) + r.val, by omega⟩ l) := by
  blk_ext! [iblk, V, idx t]

theorem host_mod : (V m c main_v0 : FVec Ideal S8x1x6144 .f32) = fun i => Q m c (ix2 (i 0) (i 2)) := by
  entry_read
  funext i
  pointwise

theorem host_g : (V m c main_v13 : FVec Ideal S1x1024 .f32) = fun i => G m c (ix1 (i 1)) := by
  entry_read
  funext i
  pointwise

theorem host_w : (V m c main_v12 : FVec Ideal S1024x2688 .bf16) = weights (W m c) := rfl

theorem blk1 (t : Fin cfg0.N) (k : Fin 6144) :
    (iblk m c 1 t : Vec Ideal S1x1x6144 .f32) (ix3 0 0 k) = Q m c (ix2 ⟨t.val / 16, by have := lt_N t; omega⟩ k) := by
  have e : (V m c main_v0 : FVec Ideal S8x1x6144 .f32) (ix3 ⟨t.val / 16, by have := lt_N t; omega⟩ 0 k) = Q m c (ix2 ⟨t.val / 16, by have := lt_N t; omega⟩ k) := by
    rw [host_mod]
    pointwise
  rw [← e]
  blk_ext [iblk, idx t]

theorem blk2 (t : Fin cfg0.N) (d : Fin 1024) : (iblk m c 2 t : Vec Ideal S1x1024 .f32) (ix2 0 d) = G m c (ix1 d) := by
  have e : (V m c main_v13 : FVec Ideal S1x1024 .f32) (ix2 0 d) = G m c (ix1 d) := by
    rw [host_g]
    pointwise
  rw [← e]
  blk_ext [iblk, idx t]

theorem blk3 (t : Fin cfg0.N) (i : Fin 1024) (j : Fin 2688) : (iblk m c 3 t : Vec Ideal S1024x2688 .bf16) (ix2 i j) = weights (W m c) (ix2 i j) := by
  rw [← host_w]
  blk_ext [iblk, idx t]

/-- The reference, entry by entry, as products with the reordered weights. -/
theorem result_at (x : FVec Ideal S4x8192x1024 .f32) (q : FVec Ideal S8x6144 .f32) (g : FVec Ideal S1024 .f32) (w : FVec Ideal S1024x2592 .f32)
    (i : Fin 4) (r : Fin 8192) (j : Fin 2688) :
    Cert.Reference4Ideal.Out.result x q g w (ix3 i r j) = ∑ d, Ffn.modulated (fun d => x (ix3 i r d)) (fun d => g (ix1 d)) (fun d => q (ix2 ⟨i.val, by omega⟩ ⟨1024 + d.val, by omega⟩))
      (fun d => q (ix2 ⟨i.val, by omega⟩ ⟨d.val, by omega⟩)) d * weights w (ix2 d j) := by
  refine col_at _ w i r _ (fun e => ?_) j
  rw [Cert.Reference4Ideal.Out.proj_at]
  simp only [Cert.Reference4Ideal.Out.modulated_at]

/-- The array after the run. -/
theorem final : (dats m 0 c).arrAt 4 cfg0.N = Cert.Reference4Ideal.Out.result (X m c) (Q m c) (G m c) (W m c) := by
  refine (dats m 0 c).arrAt_eq_of_covers 4 _ (by decide +kernel) fun t hf y => ?_
  blk_simp
  rw [after0_4, out_any m c t _ rfl]
  revert y
  intro (y : S1x512x2688.Idx)
  obtain ⟨z, r, l, rfl⟩ : ∃ (z : Fin 1) (r : Fin 512) (l : Fin 2688), y = ix3 z r l := ⟨y 0, y 1, y 2, eq_ix3 y⟩
  obtain rfl : z = 0 := Fin.ext (by omega)
  have h := lt_N t
  refine (block_at (iblk m c 0 t) (iblk m c 1 t) (iblk m c 2 t) (iblk m c 3 t) r l).trans ?_
  simp only [blk0, blk1, blk2, blk3]
  refine (result_at (X m c) (Q m c) (G m c) (W m c) ⟨t.val / 16, by omega⟩ ⟨512 * (t.val % 16) + r.val, by omega⟩ l).symm.trans ?_
  blk_ext [idx t]

end Cert.Kernel4Ideal.Out
-- ==== Proof.Ker5.lean ====
/- What a point of the in-projection of layer 0 leaves in its output block, entry by entry. -/
module

public import proofs.«01_k».proof.Proof.FfnSpec
public import proofs.«01_k».proof.Proof.Gen.Kernel5Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen

theorem pay2_at (x : Vec Ideal S1x512x1024 .f32) (q : Vec Ideal S1x1x6144 .f32) (g : Vec Ideal S1x1024 .f32) (r : Fin 512) (d : Fin 1024) :
    k0_pay2 x q g (ix2 r d) = Ffn.modulated (fun d => x (ix3 0 r d)) (fun d => g (ix2 0 d)) (fun d => q (ix3 0 0 ⟨1024 + d.val, by omega⟩))
      (fun d => q (ix3 0 0 ⟨d.val, by omega⟩)) d := by
  pointwise [k0_pay2, Ffn.modulated, Ffn.rms]

/-- The columns of the first half of a rotated pair. -/
def mask : IVec S512x128 1 := k0_pay7 (Scalar.select (Scalar.cmpi .eq 32#32 0#32) 1#32 32#32) k0_pay5 k0_pay6

theorem mask_row : ∀ l : Fin 128, mask (ix2 0 l) = if l.val % 32 < 16 then 1#1 else 0#1 := by decide +kernel

theorem mask_at (r : Fin 512) (l : Fin 128) : mask (ix2 r l) = if l.val % 32 < 16 then 1#1 else 0#1 :=
  (show mask (ix2 r l) = mask (ix2 0 l) from rfl).trans (mask_row l)

/-- A group of columns, rotated. -/
def rot (cs sn : FVec Ideal S512x128 .f32) (a : FVec Ideal S512x128 .f32) : FVec Ideal S1x512x128 .bf16 :=
  shapeCast S1x512x128 (truncf .bf16 (addf (mulf a cs) (mulf (select mask (dynamicRotate 1 112#32 none a rotates_S512x128_d1) (dynamicRotate 1 16#32 none a rotates_S512x128_d1)) sn)) bitsLt_bf16_f32 : FVec Ideal S512x128 .bf16) shapeCasts_S512x128_S1x512x128

/-- A group of columns, as it is. -/
def plain (a : FVec Ideal S512x128 .f32) : FVec Ideal S1x512x128 .bf16 :=
  shapeCast S1x512x128 (truncf .bf16 a bitsLt_bf16_f32 : FVec Ideal S512x128 .bf16) shapeCasts_S512x128_S1x512x128

theorem plain_at (a : FVec Ideal S512x128 .f32) (r : Fin 512) (l : Fin 128) : plain a (ix3 0 r l) = a (ix2 r l) := by
  pointwise [plain]

theorem rot_at (cs sn a : FVec Ideal S512x128 .f32) (r : Fin 512) (l : Fin 128) :
    rot cs sn a (ix3 0 r l) = a (ix2 r l) * cs (ix2 r l)
      + (if l.val % 32 < 16 then a (ix2 r ⟨(l.val + 16) % 128, by omega⟩) else a (ix2 r ⟨(l.val + 112) % 128, by omega⟩)) * sn (ix2 r l) := by
  by_cases h : l.val % 32 < 16
  · pointwise [rot, mask_at, h]
    simp only [show (l.val + 128 - 112) % 128 = (l.val + 16) % 128 by omega]
  · pointwise [rot, mask_at, h]
    simp only [show (l.val + 128 - 16) % 128 = (l.val + 112) % 128 by omega]

/-- A column of the product, rotated: `P` a row of the product, `c` the cosines and the signed sines of the row. -/
def roped (P : Fin 2304 → EReal) (c : Fin 256 → EReal) (j : Fin 2304) : EReal :=
  P j * c ⟨j.val % 128, by omega⟩ + (if j.val % 32 < 16 then P ⟨(j.val + 16) % 2304, by omega⟩ else P ⟨j.val - 16, by omega⟩) * c ⟨128 + j.val % 128, by omega⟩

/-- A column of the result: queries and keys rotated, values not. -/
def column (P : Fin 2304 → EReal) (c : Fin 256 → EReal) (j : Fin 2304) : EReal :=
  if j.val < 1024 ∨ (1536 ≤ j.val ∧ j.val < 2176) then roped P c j else P j

/-- One entry of the product. -/
def prod (x : Vec Ideal S1x512x1024 .f32) (q : Vec Ideal S1x1x6144 .f32) (g : Vec Ideal S1x1024 .f32) (w : Vec Ideal S1024x2304 .bf16) (r : Fin 512) (j : Fin 2304) : EReal :=
  ∑ d, k0_pay2 x q g (ix2 r d) * w (ix2 d j)

/-- One entry of the block. -/
def entry (x : Vec Ideal S1x512x1024 .f32) (q : Vec Ideal S1x1x6144 .f32) (g : Vec Ideal S1x1024 .f32) (w : Vec Ideal S1024x2304 .bf16) (t : Vec Ideal S512x256 .f32) (r : Fin 512) (j : Fin 2304) : EReal :=
  column (prod x q g w r) (fun k => t (ix2 r k)) j

theorem rot_piece (P : Fin 512 → Fin 2304 → EReal) (t : Vec Ideal S512x256 .f32) (cs sn a : FVec Ideal S512x128 .f32) (n : ℕ) (hn : n ≤ 2176) (h128 : n % 128 = 0)
    (hr : n < 1024 ∨ (1536 ≤ n ∧ n < 2176)) (hc : ∀ r l, cs (ix2 r l) = t (ix2 r ⟨l.val, by omega⟩)) (hs : ∀ r l, sn (ix2 r l) = t (ix2 r ⟨128 + l.val, by omega⟩))
    (ha : ∀ (r : Fin 512) (l : Fin 128), a (ix2 r l) = P r ⟨n + l.val, by omega⟩) (r : Fin 512) (l : Fin 128) :
    rot cs sn a (ix3 0 r l) = column (P r) (fun k => t (ix2 r k)) ⟨n + l.val, by omega⟩ := by
  rw [rot_at, hc, hs, ha, ha, ha, column, if_pos (show n + l.val < 1024 ∨ (1536 ≤ n + l.val ∧ n + l.val < 2176) by omega), roped]
  simp only [show (n + l.val) % 32 < 16 ↔ l.val % 32 < 16 by omega, show (n + l.val) % 128 = l.val by omega]
  by_cases h : l.val % 32 < 16
  · simp only [h, if_true]
    simp only [show n + (l.val + 16) % 128 = (n + l.val + 16) % 2304 by omega]
  · simp only [h, if_false]
    simp only [show n + (l.val + 112) % 128 = n + l.val - 16 by omega]

theorem plain_piece (P : Fin 512 → Fin 2304 → EReal) (t : Vec Ideal S512x256 .f32) (a : FVec Ideal S512x128 .f32) (n : ℕ) (hn : n ≤ 2176) (h128 : n % 128 = 0)
    (hr : ¬(n < 1024 ∨ (1536 ≤ n ∧ n < 2176))) (ha : ∀ (r : Fin 512) (l : Fin 128), a (ix2 r l) = P r ⟨n + l.val, by omega⟩) (r : Fin 512) (l : Fin 128) :
    plain a (ix3 0 r l) = column (P r) (fun k => t (ix2 r k)) ⟨n + l.val, by omega⟩ := by
  rw [plain_at, ha, column, if_neg (show ¬(n + l.val < 1024 ∨ (1536 ≤ n + l.val ∧ n + l.val < 2176)) by omega)]

theorem chunk0_at (x : Vec Ideal S1x512x1024 .f32) (q : Vec Ideal S1x1x6144 .f32) (g : Vec Ideal S1x1024 .f32) (w : Vec Ideal S1024x2304 .bf16) (r : Fin 512) (k : Fin 768) :
    k0_pay8 (k0_pay2 x q g) (View.ld w r0_5) (ix2 r k) = prod x q g w r ⟨0 + k.val, by omega⟩ := by
  pointwise [k0_pay8, r0_5, prod]

theorem chunk1_at (x : Vec Ideal S1x512x1024 .f32) (q : Vec Ideal S1x1x6144 .f32) (g : Vec Ideal S1x1024 .f32) (w : Vec Ideal S1024x2304 .bf16) (r : Fin 512) (k : Fin 768) :
    k0_pay19 (k0_pay2 x q g) (View.ld w r0_12) (ix2 r k) = prod x q g w r ⟨768 + k.val, by omega⟩ := by
  pointwise [k0_pay19, r0_12, prod]

theorem chunk2_at (x : Vec Ideal S1x512x1024 .f32) (q : Vec Ideal S1x1x6144 .f32) (g : Vec Ideal S1x1024 .f32) (w : Vec Ideal S1024x2304 .bf16) (r : Fin 512) (k : Fin 768) :
    k0_pay26 (k0_pay2 x q g) (View.ld w r0_19) (ix2 r k) = prod x q g w r ⟨1536 + k.val, by omega⟩ := by
  pointwise [k0_pay26, r0_19, prod]

/-- The cosines of a block of the table, and its signed sines. -/
def cosines (t : Vec Ideal S512x256 .f32) : FVec Ideal S512x128 .f32 := k0_pay3 (View.ld t r0_3)
def sines (t : Vec Ideal S512x256 .f32) : FVec Ideal S512x128 .f32 := k0_pay4 (View.ld t r0_4)

theorem cosines_at (t : Vec Ideal S512x256 .f32) (r : Fin 512) (l : Fin 128) : cosines t (ix2 r l) = t (ix2 r ⟨l.val, by omega⟩) := by
  pointwise [cosines, k0_pay3, r0_3]

theorem sines_at (t : Vec Ideal S512x256 .f32) (r : Fin 512) (l : Fin 128) : sines t (ix2 r l) = t (ix2 r ⟨128 + l.val, by omega⟩) := by
  pointwise [sines, k0_pay4, r0_4]

theorem place (G : Fin 512 → Fin 2304 → EReal) (y : S1x512x2304.Idx) (r : Fin 512) (j : Fin 2304) (h1 : (y 1).val = r.val) (h2 : (y 2).val = j.val) : G (y 1) (y 2) = G r j := by
  rw [show (y 1 : Fin 512) = r from Fin.ext h1, show (y 2 : Fin 2304) = j from Fin.ext h2]

theorem group0_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 0] (k0_pay8 (k0_pay2 x q g) (View.ld w r0_5)) slices_S512x768_o0_0_S512x128) : FVec Ideal S512x128 .f32) (ix2 r l) = prod x q g w r ⟨0 + l.val, by omega⟩ := by
  pointwise [chunk0_at]

theorem group1_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 128] (k0_pay8 (k0_pay2 x q g) (View.ld w r0_5)) slices_S512x768_o0_128_S512x128) : FVec Ideal S512x128 .f32) (ix2 r l) = prod x q g w r ⟨128 + l.val, by omega⟩ := by
  pointwise [chunk0_at]

theorem group2_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 256] (k0_pay8 (k0_pay2 x q g) (View.ld w r0_5)) slices_S512x768_o0_256_S512x128) : FVec Ideal S512x128 .f32) (ix2 r l) = prod x q g w r ⟨256 + l.val, by omega⟩ := by
  pointwise [chunk0_at]

theorem group3_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 384] (k0_pay8 (k0_pay2 x q g) (View.ld w r0_5)) slices_S512x768_o0_384_S512x128) : FVec Ideal S512x128 .f32) (ix2 r l) = prod x q g w r ⟨384 + l.val, by omega⟩ := by
  pointwise [chunk0_at]

theorem group4_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 512] (k0_pay8 (k0_pay2 x q g) (View.ld w r0_5)) slices_S512x768_o0_512_S512x128) : FVec Ideal S512x128 .f32) (ix2 r l) = prod x q g w r ⟨512 + l.val, by omega⟩ := by
  pointwise [chunk0_at]

theorem group5_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 640] (k0_pay8 (k0_pay2 x q g) (View.ld w r0_5)) slices_S512x768_o0_640_S512x128) : FVec Ideal S512x128 .f32) (ix2 r l) = prod x q g w r ⟨640 + l.val, by omega⟩ := by
  pointwise [chunk0_at]

theorem group6_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 0] (k0_pay19 (k0_pay2 x q g) (View.ld w r0_12)) slices_S512x768_o0_0_S512x128) : FVec Ideal S512x128 .f32) (ix2 r l) = prod x q g w r ⟨768 + l.val, by omega⟩ := by
  pointwise [chunk1_at]

theorem group7_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 128] (k0_pay19 (k0_pay2 x q g) (View.ld w r0_12)) slices_S512x768_o0_128_S512x128) : FVec Ideal S512x128 .f32) (ix2 r l) = prod x q g w r ⟨896 + l.val, by omega⟩ := by
  pointwise [chunk1_at]
  simp only [show 768 + (128 + l.val) = 896 + l.val by omega]

theorem group8_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 256] (k0_pay19 (k0_pay2 x q g) (View.ld w r0_12)) slices_S512x768_o0_256_S512x128) : FVec Ideal S512x128 .f32) (ix2 r l) = prod x q g w r ⟨1024 + l.val, by omega⟩ := by
  pointwise [chunk1_at]
  simp only [show 768 + (256 + l.val) = 1024 + l.val by omega]

theorem group9_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 384] (k0_pay19 (k0_pay2 x q g) (View.ld w r0_12)) slices_S512x768_o0_384_S512x128) : FVec Ideal S512x128 .f32) (ix2 r l) = prod x q g w r ⟨1152 + l.val, by omega⟩ := by
  pointwise [chunk1_at]
  simp only [show 768 + (384 + l.val) = 1152 + l.val by omega]

theorem group10_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 512] (k0_pay19 (k0_pay2 x q g) (View.ld w r0_12)) slices_S512x768_o0_512_S512x128) : FVec Ideal S512x128 .f32) (ix2 r l) = prod x q g w r ⟨1280 + l.val, by omega⟩ := by
  pointwise [chunk1_at]
  simp only [show 768 + (512 + l.val) = 1280 + l.val by omega]

theorem group11_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 640] (k0_pay19 (k0_pay2 x q g) (View.ld w r0_12)) slices_S512x768_o0_640_S512x128) : FVec Ideal S512x128 .f32) (ix2 r l) = prod x q g w r ⟨1408 + l.val, by omega⟩ := by
  pointwise [chunk1_at]
  simp only [show 768 + (640 + l.val) = 1408 + l.val by omega]

theorem group12_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 0] (k0_pay26 (k0_pay2 x q g) (View.ld w r0_19)) slices_S512x768_o0_0_S512x128) : FVec Ideal S512x128 .f32) (ix2 r l) = prod x q g w r ⟨1536 + l.val, by omega⟩ := by
  pointwise [chunk2_at]

theorem group13_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 128] (k0_pay26 (k0_pay2 x q g) (View.ld w r0_19)) slices_S512x768_o0_128_S512x128) : FVec Ideal S512x128 .f32) (ix2 r l) = prod x q g w r ⟨1664 + l.val, by omega⟩ := by
  pointwise [chunk2_at]
  simp only [show 1536 + (128 + l.val) = 1664 + l.val by omega]

theorem group14_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 256] (k0_pay26 (k0_pay2 x q g) (View.ld w r0_19)) slices_S512x768_o0_256_S512x128) : FVec Ideal S512x128 .f32) (ix2 r l) = prod x q g w r ⟨1792 + l.val, by omega⟩ := by
  pointwise [chunk2_at]
  simp only [show 1536 + (256 + l.val) = 1792 + l.val by omega]

theorem group15_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 384] (k0_pay26 (k0_pay2 x q g) (View.ld w r0_19)) slices_S512x768_o0_384_S512x128) : FVec Ideal S512x128 .f32) (ix2 r l) = prod x q g w r ⟨1920 + l.val, by omega⟩ := by
  pointwise [chunk2_at]
  simp only [show 1536 + (384 + l.val) = 1920 + l.val by omega]

theorem group16_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 512] (k0_pay26 (k0_pay2 x q g) (View.ld w r0_19)) slices_S512x768_o0_512_S512x128) : FVec Ideal S512x128 .f32) (ix2 r l) = prod x q g w r ⟨2048 + l.val, by omega⟩ := by
  pointwise [chunk2_at]
  simp only [show 1536 + (512 + l.val) = 2048 + l.val by omega]

theorem group17_at (x : Vec Ideal S1x512x1024 .f32) (q : Vec Ideal S1x1x6144 .f32) (g : Vec Ideal S1x1024 .f32) (w : Vec Ideal S1024x2304 .bf16) (r : Fin 512) (l : Fin 128) :
    ((extractStridedSlice S512x128 ![0, 640] (k0_pay26 (k0_pay2 x q g) (View.ld w r0_19)) slices_S512x768_o0_640_S512x128) : FVec Ideal S512x128 .f32) (ix2 r l) = prod x q g w r ⟨2176 + l.val, by omega⟩ := by
  pointwise [chunk2_at]
  simp only [show 1536 + (640 + l.val) = 2176 + l.val by omega]

theorem out_at (x : Vec Ideal S1x512x1024 .f32) (q : Vec Ideal S1x1x6144 .f32) (g : Vec Ideal S1x1024 .f32) (w : Vec Ideal S1024x2304 .bf16) (t : Vec Ideal S512x256 .f32) (y : S1x512x2304.Idx) :
    out0_5 x q g w t y = entry (View.ld x r0_0) (View.ld q r0_1) (View.ld g r0_2) w t (y 1) (y 2) := by
  unfold out0_5
  refine View.canon_apply_of_pieces (Val := Elt Ideal) (fun y => entry (View.ld x r0_0) (View.ld q r0_1) (View.ld g r0_2) w t (y 1) (y 2)) _ ?_ y (cover0_5 _ _ _ _ _ _ _ _ _ _ _ _ _ _ _ _ _ _ y)
  intro pc hpc
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (plain_piece (prod (View.ld x r0_0) (View.ld q r0_1) (View.ld g r0_2) w) t _ 2176 (by omega) (by omega) (by omega) (group17_at (View.ld x r0_0) (View.ld q r0_1) (View.ld g r0_2) w) r l).trans
      (place (entry (View.ld x r0_0) (View.ld q r0_1) (View.ld g r0_2) w t) _ r ⟨2176 + l.val, by omega⟩ (by show 0 + 1 * r.val = r.val; omega) (by show 2176 + 1 * l.val = 2176 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 2048 (by omega) (by omega) (by omega) (cosines_at t) (sines_at t) (group16_at (View.ld x r0_0) (View.ld q r0_1) (View.ld g r0_2) w) r l).trans
      (place (entry (View.ld x r0_0) (View.ld q r0_1) (View.ld g r0_2) w t) _ r ⟨2048 + l.val, by omega⟩ (by show 0 + 1 * r.val = r.val; omega) (by show 2048 + 1 * l.val = 2048 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 1920 (by omega) (by omega) (by omega) (cosines_at t) (sines_at t) (group15_at (View.ld x r0_0) (View.ld q r0_1) (View.ld g r0_2) w) r l).trans
      (place (entry (View.ld x r0_0) (View.ld q r0_1) (View.ld g r0_2) w t) _ r ⟨1920 + l.val, by omega⟩ (by show 0 + 1 * r.val = r.val; omega) (by show 1920 + 1 * l.val = 1920 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 1792 (by omega) (by omega) (by omega) (cosines_at t) (sines_at t) (group14_at (View.ld x r0_0) (View.ld q r0_1) (View.ld g r0_2) w) r l).trans
      (place (entry (View.ld x r0_0) (View.ld q r0_1) (View.ld g r0_2) w t) _ r ⟨1792 + l.val, by omega⟩ (by show 0 + 1 * r.val = r.val; omega) (by show 1792 + 1 * l.val = 1792 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 1664 (by omega) (by omega) (by omega) (cosines_at t) (sines_at t) (group13_at (View.ld x r0_0) (View.ld q r0_1) (View.ld g r0_2) w) r l).trans
      (place (entry (View.ld x r0_0) (View.ld q r0_1) (View.ld g r0_2) w t) _ r ⟨1664 + l.val, by omega⟩ (by show 0 + 1 * r.val = r.val; omega) (by show 1664 + 1 * l.val = 1664 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 1536 (by omega) (by omega) (by omega) (cosines_at t) (sines_at t) (group12_at (View.ld x r0_0) (View.ld q r0_1) (View.ld g r0_2) w) r l).trans
      (place (entry (View.ld x r0_0) (View.ld q r0_1) (View.ld g r0_2) w t) _ r ⟨1536 + l.val, by omega⟩ (by show 0 + 1 * r.val = r.val; omega) (by show 1536 + 1 * l.val = 1536 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (plain_piece (prod (View.ld x r0_0) (View.ld q r0_1) (View.ld g r0_2) w) t _ 1408 (by omega) (by omega) (by omega) (group11_at (View.ld x r0_0) (View.ld q r0_1) (View.ld g r0_2) w) r l).trans
      (place (entry (View.ld x r0_0) (View.ld q r0_1) (View.ld g r0_2) w t) _ r ⟨1408 + l.val, by omega⟩ (by show 0 + 1 * r.val = r.val; omega) (by show 1408 + 1 * l.val = 1408 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (plain_piece (prod (View.ld x r0_0) (View.ld q r0_1) (View.ld g r0_2) w) t _ 1280 (by omega) (by omega) (by omega) (group10_at (View.ld x r0_0) (View.ld q r0_1) (View.ld g r0_2) w) r l).trans
      (place (entry (View.ld x r0_0) (View.ld q r0_1) (View.ld g r0_2) w t) _ r ⟨1280 + l.val, by omega⟩ (by show 0 + 1 * r.val = r.val; omega) (by show 1280 + 1 * l.val = 1280 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (plain_piece (prod (View.ld x r0_0) (View.ld q r0_1) (View.ld g r0_2) w) t _ 1152 (by omega) (by omega) (by omega) (group9_at (View.ld x r0_0) (View.ld q r0_1) (View.ld g r0_2) w) r l).trans
      (place (entry (View.ld x r0_0) (View.ld q r0_1) (View.ld g r0_2) w t) _ r ⟨1152 + l.val, by omega⟩ (by show 0 + 1 * r.val = r.val; omega) (by show 1152 + 1 * l.val = 1152 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (plain_piece (prod (View.ld x r0_0) (View.ld q r0_1) (View.ld g r0_2) w) t _ 1024 (by omega) (by omega) (by omega) (group8_at (View.ld x r0_0) (View.ld q r0_1) (View.ld g r0_2) w) r l).trans
      (place (entry (View.ld x r0_0) (View.ld q r0_1) (View.ld g r0_2) w t) _ r ⟨1024 + l.val, by omega⟩ (by show 0 + 1 * r.val = r.val; omega) (by show 1024 + 1 * l.val = 1024 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 896 (by omega) (by omega) (by omega) (cosines_at t) (sines_at t) (group7_at (View.ld x r0_0) (View.ld q r0_1) (View.ld g r0_2) w) r l).trans
      (place (entry (View.ld x r0_0) (View.ld q r0_1) (View.ld g r0_2) w t) _ r ⟨896 + l.val, by omega⟩ (by show 0 + 1 * r.val = r.val; omega) (by show 896 + 1 * l.val = 896 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 768 (by omega) (by omega) (by omega) (cosines_at t) (sines_at t) (group6_at (View.ld x r0_0) (View.ld q r0_1) (View.ld g r0_2) w) r l).trans
      (place (entry (View.ld x r0_0) (View.ld q r0_1) (View.ld g r0_2) w t) _ r ⟨768 + l.val, by omega⟩ (by show 0 + 1 * r.val = r.val; omega) (by show 768 + 1 * l.val = 768 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 640 (by omega) (by omega) (by omega) (cosines_at t) (sines_at t) (group5_at (View.ld x r0_0) (View.ld q r0_1) (View.ld g r0_2) w) r l).trans
      (place (entry (View.ld x r0_0) (View.ld q r0_1) (View.ld g r0_2) w t) _ r ⟨640 + l.val, by omega⟩ (by show 0 + 1 * r.val = r.val; omega) (by show 640 + 1 * l.val = 640 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 512 (by omega) (by omega) (by omega) (cosines_at t) (sines_at t) (group4_at (View.ld x r0_0) (View.ld q r0_1) (View.ld g r0_2) w) r l).trans
      (place (entry (View.ld x r0_0) (View.ld q r0_1) (View.ld g r0_2) w t) _ r ⟨512 + l.val, by omega⟩ (by show 0 + 1 * r.val = r.val; omega) (by show 512 + 1 * l.val = 512 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 384 (by omega) (by omega) (by omega) (cosines_at t) (sines_at t) (group3_at (View.ld x r0_0) (View.ld q r0_1) (View.ld g r0_2) w) r l).trans
      (place (entry (View.ld x r0_0) (View.ld q r0_1) (View.ld g r0_2) w t) _ r ⟨384 + l.val, by omega⟩ (by show 0 + 1 * r.val = r.val; omega) (by show 384 + 1 * l.val = 384 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 256 (by omega) (by omega) (by omega) (cosines_at t) (sines_at t) (group2_at (View.ld x r0_0) (View.ld q r0_1) (View.ld g r0_2) w) r l).trans
      (place (entry (View.ld x r0_0) (View.ld q r0_1) (View.ld g r0_2) w t) _ r ⟨256 + l.val, by omega⟩ (by show 0 + 1 * r.val = r.val; omega) (by show 256 + 1 * l.val = 256 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 128 (by omega) (by omega) (by omega) (cosines_at t) (sines_at t) (group1_at (View.ld x r0_0) (View.ld q r0_1) (View.ld g r0_2) w) r l).trans
      (place (entry (View.ld x r0_0) (View.ld q r0_1) (View.ld g r0_2) w t) _ r ⟨128 + l.val, by omega⟩ (by show 0 + 1 * r.val = r.val; omega) (by show 128 + 1 * l.val = 128 + l.val; omega)).symm
  rcases List.mem_cons.mp hpc with rfl | hpc
  · intro (y : Shape.Idx ⟨3, ![1, 512, 128]⟩)
    obtain ⟨z, r, l, rfl⟩ : ∃ (z : Fin 1) (r : Fin 512) (l : Fin 128), y = ix3 z r l := ⟨y 0, y 1, y 2, eq_ix3 y⟩
    obtain rfl : z = 0 := Fin.ext (by omega)
    exact (rot_piece (prod (View.ld x r0_0) (View.ld q r0_1) (View.ld g r0_2) w) t (cosines t) (sines t) _ 0 (by omega) (by omega) (by omega) (cosines_at t) (sines_at t) (group0_at (View.ld x r0_0) (View.ld q r0_1) (View.ld g r0_2) w) r l).trans
      (place (entry (View.ld x r0_0) (View.ld q r0_1) (View.ld g r0_2) w t) _ r ⟨0 + l.val, by omega⟩ (by show 0 + 1 * r.val = r.val; omega) (by show 0 + 1 * l.val = 0 + l.val; omega)).symm
  nomatch hpc

/-- What a point writes, entry by entry. -/
theorem block_at (x : Vec Ideal S1x512x1024 .f32) (q : Vec Ideal S1x1x6144 .f32) (g : Vec Ideal S1x1024 .f32) (w : Vec Ideal S1024x2304 .bf16) (t : Vec Ideal S512x256 .f32) (r : Fin 512) (j : Fin 2304) :
    out0_5 x q g w t (ix3 0 r j) = column (fun j => ∑ d, Ffn.modulated (fun d => x (ix3 0 r d)) (fun d => g (ix2 0 d)) (fun d => q (ix3 0 0 ⟨1024 + d.val, by omega⟩))
      (fun d => q (ix3 0 0 ⟨d.val, by omega⟩)) d * w (ix2 d j)) (fun k => t (ix2 r k)) j := by
  refine (out_at x q g w t (ix3 0 r j)).trans ?_
  have e0 : View.ld x r0_0 = x := View.ld_unit_lit _ _ (by decide)
  have e1 : View.ld q r0_1 = q := View.ld_unit_lit _ _ (by decide)
  have e2 : View.ld g r0_2 = g := View.ld_unit_lit _ _ (by decide)
  rw [e0, e1, e2]
  show column (fun j => prod x q g w r j) (fun k => t (ix2 r k)) j = _
  simp only [prod, pay2_at]

end Cert.Kernel5Ideal.Out
-- ==== Proof.Ref5.lean ====
/- The reference of the in-projection of layer 0, step by step, entry by entry. -/
module

public import proofs.«01_k».proof.Proof.Ref3
public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Reference5Ideal.Out

open Cert.Reference5Ideal Cert.Reference5Ideal.Gen
open Cert.Reference3Ideal.Out (mods full normed normed_at)

/-- The norm of every row, modulated. -/
def modulated (x : FVec Ideal S4x8192x1024 .f32) (q : FVec Ideal S8x6144 .f32) (g : FVec Ideal S1024 .f32) : FVec Ideal S4x8192x1024 .f32 :=
  addf (mulf (normed x g) (full (addf (broadcastInDim S4x1x1024 ![] bcast_S_S4x1x1024 (constant S_ .f32 0x3F800000#32))
    (extractStridedSlice S4x1x1024 ![0, 0, 1024] (mods q) slices_S4x1x6144_S4x1x1024_0_0_1024))))
    (full (extractStridedSlice S4x1x1024 ![0, 0, 0] (mods q) slices_S4x1x6144_S4x1x1024_0_0_0))

/-- The projection. -/
def proj (h : FVec Ideal S4x8192x1024 .f32) (w : FVec Ideal S1024x2304 .f32) : FVec Ideal S4x8192x2304 .f32 :=
  Host.dotGeneral dot_S4x8192x1024_S1024x2304_S4x8192x2304_2_0_01_1_n_n none h w

/-- The rotary frequencies. -/
def freqs : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The angles of the tokens at positions `n` along one axis of the grid. -/
def angles (n : IVec S128x64 32) : FVec Ideal S8192x16 .f32 :=
  mulf (broadcastInDim S8192x16 ![0, 1] bcast_S8192x1_S8192x16_0_1 (broadcastInDim S8192x1 ![0] bcast_S8192_S8192x1_0 (sitofp .f32 (shapeCast S8192 n shapeCasts_S128x64_S8192))))
    (broadcastInDim S8192x16 ![0, 1] bcast_S1x16_S8192x16_0_1 (broadcastInDim S1x16 ![1] bcast_S16_S1x16_1 freqs))

/-- The angles by row and by column of the grid. -/
def rowAngles : FVec Ideal S8192x16 .f32 := angles (broadcastInDim S128x64 ![0, 1] bcast_S128x1_S128x64_0_1 (broadcastInDim S128x1 ![0] bcast_S128_S128x1_0 (iotaInDim S128 32 0)))
def colAngles : FVec Ideal S8192x16 .f32 := angles (broadcastInDim S128x64 ![0, 1] bcast_S1x64_S128x64_0_1 (broadcastInDim S1x64 ![1] bcast_S64_S1x64_1 (iotaInDim S64 32 0)))

/-- One half of every head turned by its angles, 8 heads. -/
def turn8 (c s : FVec Ideal S8192x16 .f32) (a : FVec Ideal S4x8192x8x32 .f32) : FVec Ideal S4x8192x8x32 .f32 :=
  concatenate S4x8192x8x32 3 [⟨S4x8192x8x16, subf
      (mulf (extractStridedSlice S4x8192x8x16 ![0, 0, 0, 0] a slices_S4x8192x8x32_S4x8192x8x16_0_0_0_0) (broadcastInDim S4x8192x8x16 ![0, 1, 2, 3] bcast_S1x8192x1x16_S4x8192x8x16_0_1_2_3 (shapeCast S1x8192x1x16 c shapeCasts_S8192x16_S1x8192x1x16)))
      (mulf (extractStridedSlice S4x8192x8x16 ![0, 0, 0, 16] a slices_S4x8192x8x32_S4x8192x8x16_0_0_0_16) (broadcastInDim S4x8192x8x16 ![0, 1, 2, 3] bcast_S1x8192x1x16_S4x8192x8x16_0_1_2_3 (shapeCast S1x8192x1x16 s shapeCasts_S8192x16_S1x8192x1x16)))⟩,
    ⟨S4x8192x8x16, addf
      (mulf (extractStridedSlice S4x8192x8x16 ![0, 0, 0, 0] a slices_S4x8192x8x32_S4x8192x8x16_0_0_0_0) (broadcastInDim S4x8192x8x16 ![0, 1, 2, 3] bcast_S1x8192x1x16_S4x8192x8x16_0_1_2_3 (shapeCast S1x8192x1x16 s shapeCasts_S8192x16_S1x8192x1x16)))
      (mulf (extractStridedSlice S4x8192x8x16 ![0, 0, 0, 16] a slices_S4x8192x8x32_S4x8192x8x16_0_0_0_16) (broadcastInDim S4x8192x8x16 ![0, 1, 2, 3] bcast_S1x8192x1x16_S4x8192x8x16_0_1_2_3 (shapeCast S1x8192x1x16 c shapeCasts_S8192x16_S1x8192x1x16)))⟩]
    concatenates_S4x8192x8x16_S4x8192x8x16_S4x8192x8x32_d3

/-- The rotary embedding of 8 heads. -/
def rope8 (cr sr cc sc : FVec Ideal S8192x16 .f32) (p : FVec Ideal S4x8192x512 .f32) : FVec Ideal S4x8192x512 .f32 :=
  shapeCast S4x8192x512 (concatenate S4x8192x8x64 3 [⟨S4x8192x8x32, turn8 cr sr (extractStridedSlice S4x8192x8x32 ![0, 0, 0, 0] (shapeCast S4x8192x8x64 p shapeCasts_S4x8192x512_S4x8192x8x64) slices_S4x8192x8x64_S4x8192x8x32_0_0_0_0)⟩,
    ⟨S4x8192x8x32, turn8 cc sc (extractStridedSlice S4x8192x8x32 ![0, 0, 0, 32] (shapeCast S4x8192x8x64 p shapeCasts_S4x8192x512_S4x8192x8x64) slices_S4x8192x8x64_S4x8192x8x32_0_0_0_32)⟩]
    concatenates_S4x8192x8x32_S4x8192x8x32_S4x8192x8x64_d3) shapeCasts_S4x8192x8x64_S4x8192x512

/-- One half of every head turned by its angles, 2 heads. -/
def turn2 (c s : FVec Ideal S8192x16 .f32) (a : FVec Ideal S4x8192x2x32 .f32) : FVec Ideal S4x8192x2x32 .f32 :=
  concatenate S4x8192x2x32 3 [⟨S4x8192x2x16, subf
      (mulf (extractStridedSlice S4x8192x2x16 ![0, 0, 0, 0] a slices_S4x8192x2x32_S4x8192x2x16_0_0_0_0) (broadcastInDim S4x8192x2x16 ![0, 1, 2, 3] bcast_S1x8192x1x16_S4x8192x2x16_0_1_2_3 (shapeCast S1x8192x1x16 c shapeCasts_S8192x16_S1x8192x1x16)))
      (mulf (extractStridedSlice S4x8192x2x16 ![0, 0, 0, 16] a slices_S4x8192x2x32_S4x8192x2x16_0_0_0_16) (broadcastInDim S4x8192x2x16 ![0, 1, 2, 3] bcast_S1x8192x1x16_S4x8192x2x16_0_1_2_3 (shapeCast S1x8192x1x16 s shapeCasts_S8192x16_S1x8192x1x16)))⟩,
    ⟨S4x8192x2x16, addf
      (mulf (extractStridedSlice S4x8192x2x16 ![0, 0, 0, 0] a slices_S4x8192x2x32_S4x8192x2x16_0_0_0_0) (broadcastInDim S4x8192x2x16 ![0, 1, 2, 3] bcast_S1x8192x1x16_S4x8192x2x16_0_1_2_3 (shapeCast S1x8192x1x16 s shapeCasts_S8192x16_S1x8192x1x16)))
      (mulf (extractStridedSlice S4x8192x2x16 ![0, 0, 0, 16] a slices_S4x8192x2x32_S4x8192x2x16_0_0_0_16) (broadcastInDim S4x8192x2x16 ![0, 1, 2, 3] bcast_S1x8192x1x16_S4x8192x2x16_0_1_2_3 (shapeCast S1x8192x1x16 c shapeCasts_S8192x16_S1x8192x1x16)))⟩]
    concatenates_S4x8192x2x16_S4x8192x2x16_S4x8192x2x32_d3

/-- The rotary embedding of 2 heads. -/
def rope2 (cr sr cc sc : FVec Ideal S8192x16 .f32) (p : FVec Ideal S4x8192x128 .f32) : FVec Ideal S4x8192x128 .f32 :=
  shapeCast S4x8192x128 (concatenate S4x8192x2x64 3 [⟨S4x8192x2x32, turn2 cr sr (extractStridedSlice S4x8192x2x32 ![0, 0, 0, 0] (shapeCast S4x8192x2x64 p shapeCasts_S4x8192x128_S4x8192x2x64) slices_S4x8192x2x64_S4x8192x2x32_0_0_0_0)⟩,
    ⟨S4x8192x2x32, turn2 cc sc (extractStridedSlice S4x8192x2x32 ![0, 0, 0, 32] (shapeCast S4x8192x2x64 p shapeCasts_S4x8192x128_S4x8192x2x64) slices_S4x8192x2x64_S4x8192x2x32_0_0_0_32)⟩]
    concatenates_S4x8192x2x32_S4x8192x2x32_S4x8192x2x64_d3) shapeCasts_S4x8192x2x64_S4x8192x128

/-- The columns of the projection, queries and keys with the rotary embedding. -/
def pieces (cr sr cc sc : FVec Ideal S8192x16 .f32) (p : FVec Ideal S4x8192x2304 .f32) : FVec Ideal S4x8192x2304 .f32 :=
  concatenate S4x8192x2304 2 [⟨S4x8192x512, rope8 cr sr cc sc (extractStridedSlice S4x8192x512 ![0, 0, 0] p slices_S4x8192x2304_S4x8192x512_0_0_0)⟩,
    ⟨S4x8192x512, rope8 cr sr cc sc (extractStridedSlice S4x8192x512 ![0, 0, 512] p slices_S4x8192x2304_S4x8192x512_0_0_512)⟩,
    ⟨S4x8192x512, extractStridedSlice S4x8192x512 ![0, 0, 1024] p slices_S4x8192x2304_S4x8192x512_0_0_1024⟩,
    ⟨S4x8192x512, rope8 cr sr cc sc (extractStridedSlice S4x8192x512 ![0, 0, 1536] p slices_S4x8192x2304_S4x8192x512_0_0_1536)⟩,
    ⟨S4x8192x128, rope2 cr sr cc sc (extractStridedSlice S4x8192x128 ![0, 0, 2048] p slices_S4x8192x2304_S4x8192x128_0_0_2048)⟩,
    ⟨S4x8192x128, extractStridedSlice S4x8192x128 ![0, 0, 2176] p slices_S4x8192x2304_S4x8192x128_0_0_2176⟩]
    concatenates_S4x8192x512_S4x8192x512_S4x8192x512_S4x8192x512_S4x8192x128_S4x8192x128_S4x8192x2304_d2

/-- The whole of it, from the arguments. -/
def result (x : FVec Ideal S4x8192x1024 .f32) (q : FVec Ideal S8x6144 .f32) (g : FVec Ideal S1024 .f32) (w : FVec Ideal S1024x2304 .f32) : FVec Ideal S4x8192x2304 .bf16 :=
  truncf .bf16 (pieces (Host.cos rowAngles) (Host.sin rowAngles) (Host.cos colAngles) (Host.sin colAngles) (proj (modulated x q g) w)) bitsLt_bf16_f32

theorem res_eq (m : (ℓ : Loc nD τ sig) → Buf (Elt Ideal) ℓ) (c : Dev nD) :
    (truncf .bf16 (Value.res_main_v208 (StableHlo.launchContents m c)) bitsLt_bf16_f32 : FVec Ideal S4x8192x2304 .bf16) = result (m ((c.tc : Thread nD τ).loc main_arg0)) (m ((c.tc : Thread nD τ).loc main_arg1)) (m ((c.tc : Thread nD τ).loc main_arg2))
      (m ((c.tc : Thread nD τ).loc main_arg3)) := rfl

theorem modulated_at (x : FVec Ideal S4x8192x1024 .f32) (q : FVec Ideal S8x6144 .f32) (g : FVec Ideal S1024 .f32) (i : Fin 4) (r : Fin 8192) (d : Fin 1024) :
    modulated x q g (ix3 i r d) = Ffn.modulated (fun d => x (ix3 i r d)) (fun d => g (ix1 d)) (fun d => q (ix2 ⟨i.val, by omega⟩ ⟨1024 + d.val, by omega⟩))
      (fun d => q (ix2 ⟨i.val, by omega⟩ ⟨d.val, by omega⟩)) d := by
  pointwise [modulated, normed_at, full, mods, Ffn.modulated]

theorem proj_at (h : FVec Ideal S4x8192x1024 .f32) (w : FVec Ideal S1024x2304 .f32) (i : Fin 4) (r : Fin 8192) (j : Fin 2304) :
    proj h w (ix3 i r j) = ∑ d, h (ix3 i r d) * w (ix2 d j) := by
  pointwise [proj]

theorem turn8_first (c s : FVec Ideal S8192x16 .f32) (a : FVec Ideal S4x8192x8x32 .f32) (i : Fin 4) (r : Fin 8192) (h : Fin 8) (e : Fin 32) (he : e.val < 16) :
    turn8 c s a (ix4 i r h e) = a (ix4 i r h e) * c (ix2 r ⟨e.val % 16, by omega⟩) - a (ix4 i r h ⟨(e.val + 16) % 32, by omega⟩) * s (ix2 r ⟨e.val % 16, by omega⟩) := by
  pointwise [turn8, he]
  simp only [show e.val % 16 = e.val by omega, show (e.val + 16) % 32 = 16 + e.val by omega]

theorem turn8_second (c s : FVec Ideal S8192x16 .f32) (a : FVec Ideal S4x8192x8x32 .f32) (i : Fin 4) (r : Fin 8192) (h : Fin 8) (e : Fin 32) (he : ¬e.val < 16) :
    turn8 c s a (ix4 i r h e) = a (ix4 i r h ⟨e.val - 16, by omega⟩) * s (ix2 r ⟨e.val % 16, by omega⟩) + a (ix4 i r h e) * c (ix2 r ⟨e.val % 16, by omega⟩) := by
  pointwise [turn8, he]
  simp only [show e.val % 16 = e.val - 16 by omega, show 16 + (e.val - 16) = e.val by omega]

/-- An entry of the rotary embedding: its half of the head says which angles, its quarter whether it is the first or the second of its pair. -/
theorem rope8_at (cr sr cc sc : FVec Ideal S8192x16 .f32) (p : FVec Ideal S4x8192x512 .f32) (i : Fin 4) (r : Fin 8192) (l : Fin 512) :
    rope8 cr sr cc sc p (ix3 i r l) =
      if l.val % 32 < 16 then p (ix3 i r l) * (if l.val % 64 < 32 then cr else cc) (ix2 r ⟨l.val % 16, by omega⟩) - p (ix3 i r ⟨(l.val + 16) % 512, by omega⟩) * (if l.val % 64 < 32 then sr else sc) (ix2 r ⟨l.val % 16, by omega⟩)
      else p (ix3 i r ⟨l.val - 16, by omega⟩) * (if l.val % 64 < 32 then sr else sc) (ix2 r ⟨l.val % 16, by omega⟩) + p (ix3 i r l) * (if l.val % 64 < 32 then cr else cc) (ix2 r ⟨l.val % 16, by omega⟩) := by
  by_cases h1 : l.val % 64 < 32
  · by_cases h2 : l.val % 64 < 16
    · have h3 : l.val % 32 < 16 := by omega
      have t := turn8_first cr sr (extractStridedSlice S4x8192x8x32 ![0, 0, 0, 0] (shapeCast S4x8192x8x64 p shapeCasts_S4x8192x512_S4x8192x8x64) slices_S4x8192x8x64_S4x8192x8x32_0_0_0_0) i r ⟨l.val / 64, by omega⟩ ⟨l.val % 64, h1⟩ h2
      pointwise [rope8, h1, h2, h3, t]
      simp only [show l.val % 64 % 16 = l.val % 16 by omega, show l.val / 64 * 64 + (l.val % 64 + 16) % 32 = (l.val + 16) % 512 by omega]
    · have h3 : ¬l.val % 32 < 16 := by omega
      have t := turn8_second cr sr (extractStridedSlice S4x8192x8x32 ![0, 0, 0, 0] (shapeCast S4x8192x8x64 p shapeCasts_S4x8192x512_S4x8192x8x64) slices_S4x8192x8x64_S4x8192x8x32_0_0_0_0) i r ⟨l.val / 64, by omega⟩ ⟨l.val % 64, h1⟩ h2
      pointwise [rope8, h1, h2, h3, t]
      simp only [show l.val % 64 % 16 = l.val % 16 by omega, show l.val / 64 * 64 + (l.val % 64 - 16) = l.val - 16 by omega]
  · by_cases h2 : l.val % 64 - 32 < 16
    · have h3 : l.val % 32 < 16 := by omega
      have t := turn8_first cc sc (extractStridedSlice S4x8192x8x32 ![0, 0, 0, 32] (shapeCast S4x8192x8x64 p shapeCasts_S4x8192x512_S4x8192x8x64) slices_S4x8192x8x64_S4x8192x8x32_0_0_0_32) i r ⟨l.val / 64, by omega⟩ ⟨l.val % 64 - 32, by omega⟩ h2
      pointwise [rope8, h1, h2, h3, t]
      simp only [show (l.val % 64 - 32) % 16 = l.val % 16 by omega, show l.val / 64 * 64 + (32 + (l.val % 64 - 32 + 16) % 32) = (l.val + 16) % 512 by omega, show l.val / 64 * 64 + (32 + (l.val % 64 - 32)) = l.val by omega, Fin.eta]
    · have h3 : ¬l.val % 32 < 16 := by omega
      have t := turn8_second cc sc (extractStridedSlice S4x8192x8x32 ![0, 0, 0, 32] (shapeCast S4x8192x8x64 p shapeCasts_S4x8192x512_S4x8192x8x64) slices_S4x8192x8x64_S4x8192x8x32_0_0_0_32) i r ⟨l.val / 64, by omega⟩ ⟨l.val % 64 - 32, by omega⟩ h2
      pointwise [rope8, h1, h2, h3, t]
      simp only [show (l.val % 64 - 32) % 16 = l.val % 16 by omega, show l.val / 64 * 64 + (32 + (l.val % 64 - 32 - 16)) = l.val - 16 by omega, show l.val / 64 * 64 + (32 + (l.val % 64 - 32)) = l.val by omega, Fin.eta]

theorem turn2_first (c s : FVec Ideal S8192x16 .f32) (a : FVec Ideal S4x8192x2x32 .f32) (i : Fin 4) (r : Fin 8192) (h : Fin 2) (e : Fin 32) (he : e.val < 16) :
    turn2 c s a (ix4 i r h e) = a (ix4 i r h e) * c (ix2 r ⟨e.val % 16, by omega⟩) - a (ix4 i r h ⟨(e.val + 16) % 32, by omega⟩) * s (ix2 r ⟨e.val % 16, by omega⟩) := by
  pointwise [turn2, he]
  simp only [show e.val % 16 = e.val by omega, show (e.val + 16) % 32 = 16 + e.val by omega]

theorem turn2_second (c s : FVec Ideal S8192x16 .f32) (a : FVec Ideal S4x8192x2x32 .f32) (i : Fin 4) (r : Fin 8192) (h : Fin 2) (e : Fin 32) (he : ¬e.val < 16) :
    turn2 c s a (ix4 i r h e) = a (ix4 i r h ⟨e.val - 16, by omega⟩) * s (ix2 r ⟨e.val % 16, by omega⟩) + a (ix4 i r h e) * c (ix2 r ⟨e.val % 16, by omega⟩) := by
  pointwise [turn2, he]
  simp only [show e.val % 16 = e.val - 16 by omega, show 16 + (e.val - 16) = e.val by omega]

/-- An entry of the rotary embedding: its half of the head says which angles, its quarter whether it is the first or the second of its pair. -/
theorem rope2_at (cr sr cc sc : FVec Ideal S8192x16 .f32) (p : FVec Ideal S4x8192x128 .f32) (i : Fin 4) (r : Fin 8192) (l : Fin 128) :
    rope2 cr sr cc sc p (ix3 i r l) =
      if l.val % 32 < 16 then p (ix3 i r l) * (if l.val % 64 < 32 then cr else cc) (ix2 r ⟨l.val % 16, by omega⟩) - p (ix3 i r ⟨(l.val + 16) % 128, by omega⟩) * (if l.val % 64 < 32 then sr else sc) (ix2 r ⟨l.val % 16, by omega⟩)
      else p (ix3 i r ⟨l.val - 16, by omega⟩) * (if l.val % 64 < 32 then sr else sc) (ix2 r ⟨l.val % 16, by omega⟩) + p (ix3 i r l) * (if l.val % 64 < 32 then cr else cc) (ix2 r ⟨l.val % 16, by omega⟩) := by
  by_cases h1 : l.val % 64 < 32
  · by_cases h2 : l.val % 64 < 16
    · have h3 : l.val % 32 < 16 := by omega
      have t := turn2_first cr sr (extractStridedSlice S4x8192x2x32 ![0, 0, 0, 0] (shapeCast S4x8192x2x64 p shapeCasts_S4x8192x128_S4x8192x2x64) slices_S4x8192x2x64_S4x8192x2x32_0_0_0_0) i r ⟨l.val / 64, by omega⟩ ⟨l.val % 64, h1⟩ h2
      pointwise [rope2, h1, h2, h3, t]
      simp only [show l.val % 64 % 16 = l.val % 16 by omega, show l.val / 64 * 64 + (l.val % 64 + 16) % 32 = (l.val + 16) % 128 by omega]
    · have h3 : ¬l.val % 32 < 16 := by omega
      have t := turn2_second cr sr (extractStridedSlice S4x8192x2x32 ![0, 0, 0, 0] (shapeCast S4x8192x2x64 p shapeCasts_S4x8192x128_S4x8192x2x64) slices_S4x8192x2x64_S4x8192x2x32_0_0_0_0) i r ⟨l.val / 64, by omega⟩ ⟨l.val % 64, h1⟩ h2
      pointwise [rope2, h1, h2, h3, t]
      simp only [show l.val % 64 % 16 = l.val % 16 by omega, show l.val / 64 * 64 + (l.val % 64 - 16) = l.val - 16 by omega]
  · by_cases h2 : l.val % 64 - 32 < 16
    · have h3 : l.val % 32 < 16 := by omega
      have t := turn2_first cc sc (extractStridedSlice S4x8192x2x32 ![0, 0, 0, 32] (shapeCast S4x8192x2x64 p shapeCasts_S4x8192x128_S4x8192x2x64) slices_S4x8192x2x64_S4x8192x2x32_0_0_0_32) i r ⟨l.val / 64, by omega⟩ ⟨l.val % 64 - 32, by omega⟩ h2
      pointwise [rope2, h1, h2, h3, t]
      simp only [show (l.val % 64 - 32) % 16 = l.val % 16 by omega, show l.val / 64 * 64 + (32 + (l.val % 64 - 32 + 16) % 32) = (l.val + 16) % 128 by omega, show l.val / 64 * 64 + (32 + (l.val % 64 - 32)) = l.val by omega, Fin.eta]
    · have h3 : ¬l.val % 32 < 16 := by omega
      have t := turn2_second cc sc (extractStridedSlice S4x8192x2x32 ![0, 0, 0, 32] (shapeCast S4x8192x2x64 p shapeCasts_S4x8192x128_S4x8192x2x64) slices_S4x8192x2x64_S4x8192x2x32_0_0_0_32) i r ⟨l.val / 64, by omega⟩ ⟨l.val % 64 - 32, by omega⟩ h2
      pointwise [rope2, h1, h2, h3, t]
      simp only [show (l.val % 64 - 32) % 16 = l.val % 16 by omega, show l.val / 64 * 64 + (32 + (l.val % 64 - 32 - 16)) = l.val - 16 by omega, show l.val / 64 * 64 + (32 + (l.val % 64 - 32)) = l.val by omega, Fin.eta]

end Cert.Reference5Ideal.Out
-- ==== Proof.Table5.lean ====
/- The rotary tables of the in-projection of layer 0, and the reference's columns in terms of them. -/
module

public import proofs.«01_k».proof.Proof.Ker5
public import proofs.«01_k».proof.Proof.Ref5

@[expose] public section

set_option maxRecDepth 16384

noncomputable section

open Idealize.ShloMosaic Idealize.ShloMosaic.TcCoe Idealize.SL.Sem

namespace Cert.Kernel5Ideal.Out

open Cert.Kernel5Ideal Cert.Kernel5Ideal.Gen

/-- A table over one head, for two heads. -/
def tile (v : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 v shapeCasts_S8192x64_S1x8192x1x64)) shapeCasts_S1x8192x2x64_S8192x128

/-- The cosines and the signed sines of every row. -/
def table (cr sr cc sc : FVec Ideal S8192x16 .f32) : FVec Ideal S8192x256 .f32 :=
  concatenate S8192x256 1 [⟨S8192x128, tile (concatenate S8192x64 1 [⟨S8192x16, cr⟩, ⟨S8192x16, cr⟩, ⟨S8192x16, cc⟩, ⟨S8192x16, cc⟩] concatenates_S8192x16_S8192x16_S8192x16_S8192x16_S8192x64_d1)⟩,
    ⟨S8192x128, tile (concatenate S8192x64 1 [⟨S8192x16, Host.negf sr⟩, ⟨S8192x16, sr⟩, ⟨S8192x16, Host.negf sc⟩, ⟨S8192x16, sc⟩] concatenates_S8192x16_S8192x16_S8192x16_S8192x16_S8192x64_d1)⟩]
    concatenates_S8192x128_S8192x128_S8192x256_d1

theorem table_cos (cr sr cc sc : FVec Ideal S8192x16 .f32) (r : Fin 8192) (l : Fin 128) :
    table cr sr cc sc (ix2 r ⟨l.val, by omega⟩) = (if l.val % 64 < 32 then cr else cc) (ix2 r ⟨l.val % 16, by omega⟩) := by
  have h := l.isLt
  by_cases h1 : l.val % 64 < 16
  · have h2 : l.val % 64 < 32 := by omega
    pointwise [table, tile, h, h1, h2]
    simp only [show l.val % 64 = l.val % 16 by omega]
  by_cases h2 : l.val % 64 - 16 < 16
  · have h3 : l.val % 64 < 32 := by omega
    pointwise [table, tile, h, h1, h2, h3]
    simp only [show l.val % 64 - 16 = l.val % 16 by omega]
  have h3 : ¬l.val % 64 < 32 := by omega
  by_cases h4 : l.val % 64 - 16 - 16 < 16
  · pointwise [table, tile, h, h1, h2, h3, h4]
    simp only [show l.val % 64 - 16 - 16 = l.val % 16 by omega]
  pointwise [table, tile, h, h1, h2, h3, h4]
  simp only [show l.val % 64 - 16 - 16 - 16 = l.val % 16 by omega]

theorem table_sin (cr sr cc sc : FVec Ideal S8192x16 .f32) (r : Fin 8192) (l : Fin 128) :
    table cr sr cc sc (ix2 r ⟨128 + l.val, by omega⟩)
      = if l.val % 32 < 16 then -(if l.val % 64 < 32 then sr else sc) (ix2 r ⟨l.val % 16, by omega⟩) else (if l.val % 64 < 32 then sr else sc) (ix2 r ⟨l.val % 16, by omega⟩) := by
  have h : ¬128 + l.val < 128 := by omega
  by_cases h1 : l.val % 64 < 16
  · have h2 : l.val % 64 < 32 := by omega
    have h5 : l.val % 32 < 16 := by omega
    pointwise [table, tile, h, h1, h2, h5]
    simp only [show l.val % 64 = l.val % 16 by omega]
  by_cases h2 : l.val % 64 - 16 < 16
  · have h3 : l.val % 64 < 32 := by omega
    have h5 : ¬l.val % 32 < 16 := by omega
    pointwise [table, tile, h, h1, h2, h3, h5]
    simp only [show l.val % 64 - 16 = l.val % 16 by omega]
  have h3 : ¬l.val % 64 < 32 := by omega
  by_cases h4 : l.val % 64 - 16 - 16 < 16
  · have h5 : l.val % 32 < 16 := by omega
    pointwise [table, tile, h, h1, h2, h3, h4, h5]
    simp only [show l.val % 64 - 16 - 16 = l.val % 16 by omega]
  have h5 : ¬l.val % 32 < 16 := by omega
  pointwise [table, tile, h, h1, h2, h3, h4, h5]
  simp only [show l.val % 64 - 16 - 16 - 16 = l.val % 16 by omega]

/-- A column of the product rotated by the tables, as the rotary embedding is written. -/
theorem roped_eq (P : Fin 2304 → EReal) (cr sr cc sc : FVec Ideal S8192x16 .f32) (r : Fin 8192) (j : Fin 2304) :
    roped P (fun k => table cr sr cc sc (ix2 r k)) j =
      if j.val % 32 < 16 then P j * (if j.val % 64 < 32 then cr else cc) (ix2 r ⟨j.val % 16, by omega⟩) - P ⟨(j.val + 16) % 2304, by omega⟩ * (if j.val % 64 < 32 then sr else sc) (ix2 r ⟨j.val % 16, by omega⟩)
      else P ⟨j.val - 16, by omega⟩ * (if j.val % 64 < 32 then sr else sc) (ix2 r ⟨j.val % 16, by omega⟩) + P j * (if j.val % 64 < 32 then cr else cc) (ix2 r ⟨j.val % 16, by omega⟩) := by
  have c := table_cos cr sr cc sc r ⟨j.val % 128, by omega⟩
  have s := table_sin cr sr cc sc r ⟨j.val % 128, by omega⟩
  simp only [show j.val % 128 % 64 = j.val % 64 by omega, show j.val % 128 % 32 = j.val % 32 by omega, show j.val % 128 % 16 = j.val % 16 by omega] at c s
  unfold roped
  beta_reduce
  rw [c, s]
  by_cases h : j.val % 32 < 16
  · simp only [h, if_true, mul_neg]
    exact (sub_eq_add_neg _ _).symm
  · simp only [h, if_false]
    exact add_comm _ _

/-- The reference's columns, from the projection's. -/
theorem pieces_at (cr sr cc sc : FVec Ideal S8192x16 .f32) (p : FVec Ideal Cert.Reference5Ideal.S4x8192x2304 .f32) (i : Fin 4) (r : Fin 8192) (j : Fin 2304) :
    Cert.Reference5Ideal.Out.pieces cr sr cc sc p (ix3 i r j) = column (fun j => p (ix3 i r j)) (fun k => table cr sr cc sc (ix2 r k)) j := by
  unfold column
  rw [roped_eq]
  have hj := j.isLt
  by_cases c0 : j.val < 512
  · rw [if_pos (by omega)]
    pointwise [Cert.Reference5Ideal.Out.pieces, Cert.Reference5Ideal.Out.rope8_at, c0]
    by_cases h : j.val % 32 < 16
    · simp only [h, if_true, show (j.val + 16) % 512 = (j.val + 16) % 2304 by omega, Fin.eta]
    · simp only [h, if_false]
  by_cases c1 : j.val - 512 < 512
  · rw [if_pos (by omega)]
    pointwise [Cert.Reference5Ideal.Out.pieces, Cert.Reference5Ideal.Out.rope8_at, c0, c1]
    simp only [show (j.val - 512) % 32 = j.val % 32 by omega, show (j.val - 512) % 64 = j.val % 64 by omega, show (j.val - 512) % 16 = j.val % 16 by omega, show 512 + (j.val - 512) = j.val by omega]
    by_cases h : j.val % 32 < 16
    · simp only [h, if_true, show 512 + (j.val - 512 + 16) % 512 = (j.val + 16) % 2304 by omega, Fin.eta]
    · simp only [h, if_false, show 512 + (j.val - 512 - 16) = j.val - 16 by omega, Fin.eta]
  by_cases c2 : j.val - 512 - 512 < 512
  · rw [if_neg (by omega)]
    pointwise [Cert.Reference5Ideal.Out.pieces, c0, c1, c2]
    simp only [show 1024 + (j.val - 512 - 512) = j.val by omega, Fin.eta]
  by_cases c3 : j.val - 512 - 512 - 512 < 512
  · rw [if_pos (by omega)]
    pointwise [Cert.Reference5Ideal.Out.pieces, Cert.Reference5Ideal.Out.rope8_at, c0, c1, c2, c3]
    simp only [show (j.val - 512 - 512 - 512) % 32 = j.val % 32 by omega, show (j.val - 512 - 512 - 512) % 64 = j.val % 64 by omega, show (j.val - 512 - 512 - 512) % 16 = j.val % 16 by omega, show 1536 + (j.val - 512 - 512 - 512) = j.val by omega]
    by_cases h : j.val % 32 < 16
    · simp only [h, if_true, show 1536 + (j.val - 512 - 512 - 512 + 16) % 512 = (j.val + 16) % 2304 by omega, Fin.eta]
    · simp only [h, if_false, show 1536 + (j.val - 512 - 512 - 512 - 16) = j.val - 16 by omega, Fin.eta]
  by_cases c4 : j.val - 512 - 512 - 512 - 512 < 128
  · rw [if_pos (by omega)]
    pointwise [Cert.Reference5Ideal.Out.pieces, Cert.Reference5Ideal.Out.rope2_at, c0, c1, c2, c3, c4]
    simp only [show (j.val - 512 - 512 - 512 - 512) % 32 = j.val % 32 by omega, show (j.val - 512 - 512 - 512 - 512) % 64 = j.val % 64 by omega, show (j.val - 512 - 512 - 512 - 512) % 16 = j.val % 16 by omega, show 2048 + (j.val - 512 - 512 - 512 - 512) = j.val by omega]
    by_cases h : j.val % 32 < 16
    · simp only [h, if_true, show 2048 + (j.val - 512 - 512 - 512 - 512 + 16) % 128 = (j.val + 16) % 2304 by omega, Fin.eta]
    · simp only [h, if_false, show 2048 + (j.val - 512 - 512 - 512 - 512 - 16) = j.val - 16 by omega, Fin.eta]
  rw [if_neg (by omega)]
  pointwise [Cert.Reference5Ideal.Out.pieces, c0, c1, c2, c3, c4]
  simp only [show 2176 + (j.val - 512 - 512 - 512 - 512 - 128) = j.val by omega, Fin.eta]

end Cert.Kernel5Ideal.Out
-- ==== Proof.Out5.lean ====
/- What each grid point of the in-projection of layer 0 reads and writes, and the array it leaves. -/
module

public import proofs.«01_k».proof.Proof.Table5
public import proofs.«01_k».proof.Proof.Gen.Kernel5Ideal.Value

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen

/-- The block each window reads at a point. -/
theorem idx : ∀ t : Fin cfg0.N,
    win0_0.index t = ![t.val / 16, t.val % 16, 0] ∧ win0_1.index t = ![t.val / 16, 0, 0] ∧ win0_2.index t = ![0, 0] ∧ win0_3.index t = ![0, 0]
    ∧ win0_4.index t = ![t.val % 16, 0] ∧ win0_5.index t = ![t.val / 16, t.val % 16, 0] :=
  (by decide +kernel : ∀ t : Fin grid0.N, _)

theorem lt_N (t : Fin cfg0.N) : t.val < 64 := lt_of_lt_of_eq t.isLt N_0

variable (m : (ℓ : Loc nD τ sig) → Buf (Elt Ideal) ℓ) (c : Dev nD)

abbrev X : FVec Ideal S4x8192x1024 .f32 := m ((c : Thread nD τ).loc main_arg0)
abbrev Q : FVec Ideal S8x6144 .f32 := m ((c : Thread nD τ).loc main_arg1)
abbrev G : FVec Ideal S1024 .f32 := m ((c : Thread nD τ).loc main_arg2)
abbrev W : FVec Ideal S1024x2304 .f32 := m ((c : Thread nD τ).loc main_arg3)

theorem blk0 (t : Fin cfg0.N) (r : Fin 512) (l : Fin 1024) :
    (iblk m c 0 t : Vec Ideal S1x512x1024 .f32) (ix3 0 r l) = X m c (ix3 ⟨t.val / 16, by have := lt_N t; omega⟩ ⟨512 * (t.val % 16) + r.val, by omega⟩ l) := by
  blk_ext! [iblk, V, idx t]

theorem host_mod : (V m c main_v0 : FVec Ideal S8x1x6144 .f32) = fun i => Q m c (ix2 (i 0) (i 2)) := by
  entry_read
  funext i
  pointwise

theorem host_g : (V m c main_v47 : FVec Ideal S1x1024 .f32) = fun i => G m c (ix1 (i 1)) := by
  entry_read
  funext i
  pointwise

theorem host_w : (V m c main_v1 : FVec Ideal S1024x2304 .bf16) = W m c := rfl

/-- The tables the host makes. -/
abbrev T : FVec Ideal S8192x256 .f32 :=
  table (Host.cos Cert.Reference5Ideal.Out.rowAngles) (Host.sin Cert.Reference5Ideal.Out.rowAngles) (Host.cos Cert.Reference5Ideal.Out.colAngles) (Host.sin Cert.Reference5Ideal.Out.colAngles)

set_option maxHeartbeats 4000000 in
theorem host_t : (V m c main_v46 : FVec Ideal S8192x256 .f32) = T := by
  unfold V
  after_results_simp
  rfl

theorem blk1 (t : Fin cfg0.N) (k : Fin 6144) :
    (iblk m c 1 t : Vec Ideal S1x1x6144 .f32) (ix3 0 0 k) = Q m c (ix2 ⟨t.val / 16, by have := lt_N t; omega⟩ k) := by
  have e : (V m c main_v0 : FVec Ideal S8x1x6144 .f32) (ix3 ⟨t.val / 16, by have := lt_N t; omega⟩ 0 k) = Q m c (ix2 ⟨t.val / 16, by have := lt_N t; omega⟩ k) := by
    rw [host_mod]
    pointwise
  rw [← e]
  blk_ext [iblk, idx t]

theorem blk2 (t : Fin cfg0.N) (d : Fin 1024) : (iblk m c 2 t : Vec Ideal S1x1024 .f32) (ix2 0 d) = G m c (ix1 d) := by
  have e : (V m c main_v47 : FVec Ideal S1x1024 .f32) (ix2 0 d) = G m c (ix1 d) := by
    rw [host_g]
    pointwise
  rw [← e]
  blk_ext [iblk, idx t]

theorem blk3 (t : Fin cfg0.N) (i : Fin 1024) (j : Fin 2304) : (iblk m c 3 t : Vec Ideal S1024x2304 .bf16) (ix2 i j) = W m c (ix2 i j) := by
  rw [← host_w]
  blk_ext [iblk, idx t]

theorem blk4 (t : Fin cfg0.N) (r : Fin 512) (k : Fin 256) :
    (iblk m c 4 t : Vec Ideal S512x256 .f32) (ix2 r k) = T (ix2 ⟨512 * (t.val % 16) + r.val, by omega⟩ k) := by
  rw [← host_t m c]
  blk_ext [iblk, idx t]

/-- The reference, entry by entry. -/
theorem result_at (x : FVec Ideal S4x8192x1024 .f32) (q : FVec Ideal S8x6144 .f32) (g : FVec Ideal S1024 .f32) (w : FVec Ideal S1024x2304 .f32)
    (i : Fin 4) (r : Fin 8192) (j : Fin 2304) :
    Cert.Reference5Ideal.Out.result x q g w (ix3 i r j) = column (fun j => ∑ d, Ffn.modulated (fun d => x (ix3 i r d)) (fun d => g (ix1 d)) (fun d => q (ix2 ⟨i.val, by omega⟩ ⟨1024 + d.val, by omega⟩))
      (fun d => q (ix2 ⟨i.val, by omega⟩ ⟨d.val, by omega⟩)) d * w (ix2 d j)) (fun k => T (ix2 r k)) j := by
  refine (pieces_at _ _ _ _ _ i r j).trans ?_
  simp only [Cert.Reference5Ideal.Out.proj_at, Cert.Reference5Ideal.Out.modulated_at]

/-- The array after the run. -/
theorem final : (dats m 0 c).arrAt 5 cfg0.N = Cert.Reference5Ideal.Out.result (X m c) (Q m c) (G m c) (W m c) := by
  refine (dats m 0 c).arrAt_eq_of_covers 5 _ (by decide +kernel) fun t hf y => ?_
  blk_simp
  rw [after0_5]
  revert y
  intro (y : S1x512x2304.Idx)
  obtain ⟨z, r, l, rfl⟩ : ∃ (z : Fin 1) (r : Fin 512) (l : Fin 2304), y = ix3 z r l := ⟨y 0, y 1, y 2, eq_ix3 y⟩
  obtain rfl : z = 0 := Fin.ext (by omega)
  have h := lt_N t
  refine (block_at (iblk m c 0 t) (iblk m c 1 t) (iblk m c 2 t) (iblk m c 3 t) (iblk m c 4 t) r l).trans ?_
  simp only [blk0, blk1, blk2, blk3, blk4]
  refine (result_at (X m c) (Q m c) (G m c) (W m c) ⟨t.val / 16, by omega⟩ ⟨512 * (t.val % 16) + r.val, by omega⟩ l).symm.trans ?_
  blk_ext [idx t]

end Cert.Kernel5Ideal.Out
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Final
public import proofs.«01_k».proof.Proof.Gen.Kernel2Ideal.Value
public import proofs.«01_k».proof.Proof.Gen.Reference2Ideal.Run
public import proofs.«01_k».proof.Proof.Gen.Kernel2.Frame
public import proofs.«01_k».proof.Proof.Out2
public import proofs.«01_k».proof.Proof.Ref2
public import proofs.«01_k».proof.Proof.Gen.Kernel3Ideal.Value
public import proofs.«01_k».proof.Proof.Gen.Reference3Ideal.Run
public import proofs.«01_k».proof.Proof.Gen.Kernel3.Frame
public import proofs.«01_k».proof.Proof.Out3
public import proofs.«01_k».proof.Proof.Ref3
public import proofs.«01_k».proof.Proof.Gen.Kernel4Ideal.Value
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference4Ideal.Run
public import proofs.«01_k».proof.Proof.Gen.Kernel4.Frame
public import proofs.«01_k».proof.Proof.Out4
public import proofs.«01_k».proof.Proof.Ref4
public import proofs.«01_k».proof.Proof.Out5
public import proofs.«01_k».proof.Proof.Ref5
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The original kernel runs and keeps its arguments. -/
theorem frame_p : Cert.quiescent_Kernel := fun m ρ _ => Cert.Kernel.Gen.frame m ρ

/-- So does the idealized one. -/
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ

/-- The reference runs and keeps its arguments; it has no semaphores. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The one named constant is the one printed. -/
theorem preserves : Cert.preserves_Kernel_KernelIdeal :=
  IdealRules.named_const.statement Cert.KernelIdeal.κ "qscale" .f32 0x3E38AA3B#32 ((8⁻¹ * (Real.log 2)⁻¹ : ℝ) : EReal) rfl

/-- On real arguments both end with the reference's result. -/
theorem algebraic : Cert.algebraic_KernelIdeal_ReferenceIdeal_pre_finite := by
  intro m g m' g' hpre hm
  refine ⟨fun c => Cert.ReferenceIdeal.Attn.result (Cert.KernelIdeal.Attn.A m c) (Cert.KernelIdeal.Attn.P m c) (Cert.KernelIdeal.Attn.C m c), ?_, ?_⟩
  · refine (θ_run Cert.KernelIdeal.defs _ _).mono (fun r h c => ⟨(h c).1.trans ?_, (h c).2⟩) (Cert.KernelIdeal.Value.run_blocks m g)
    obtain ⟨h0, h1, h2⟩ := hpre c
    exact Cert.KernelIdeal.Attn.final m c (Cert.KernelIdeal.Attn.real_of_pre _ _ _ (fun _ => rfl) h0)
      (Cert.KernelIdeal.Attn.real_of_pre _ _ _ (fun _ => rfl) h1) (Cert.KernelIdeal.Attn.real_of_pre _ _ _ (fun _ => rfl) h2)
  · refine (θ_run Cert.ReferenceIdeal.defs _ _).mono (fun r h c => ⟨(h c).1.trans ?_, (h c).2⟩) (Cert.ReferenceIdeal.Value.run (F := Ideal) m' g')
    obtain ⟨h0, h1, h2⟩ := hm c
    refine (Cert.ReferenceIdeal.Attn.res_eq m' c).trans ?_
    rw [h0, h1, h2]

/-- The last call of layer 1. Its programs run and keep their arguments. -/
theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem preserves2 : Cert.preserves_Kernel2_Kernel2Ideal := trivial

/-- Both end with the reference's result. -/
theorem algebraic2 : Cert.algebraic_Kernel2Ideal_Reference2Ideal := by
  intro m g m' g' _ hm
  refine ⟨fun c => Cert.Reference2Ideal.Out.result (Cert.Kernel2Ideal.Out.X m c) (Cert.Kernel2Ideal.Out.OF m c) (Cert.Kernel2Ideal.Out.OB m c) (Cert.Kernel2Ideal.Out.HF m c) (Cert.Kernel2Ideal.Out.HB m c) (Cert.Kernel2Ideal.Out.P m c) (Cert.Kernel2Ideal.Out.Q m c) (Cert.Kernel2Ideal.Out.GG m c) (Cert.Kernel2Ideal.Out.G m c) (Cert.Kernel2Ideal.Out.WO m c) (Cert.Kernel2Ideal.Out.WI m c) (Cert.Kernel2Ideal.Out.WF m c) (Cert.Kernel2Ideal.Out.FG m c), ?_, ?_⟩
  · refine (θ_run Cert.Kernel2Ideal.defs _ _).mono (fun r h c => ⟨(h c).1.trans ?_, (h c).2⟩) (Cert.Kernel2Ideal.Value.run_blocks m g)
    exact Cert.Kernel2Ideal.Out.final m c _ (fun i r j => Cert.Reference2Ideal.Out.result_at _ _ _ _ _ _ _ _ _ _ _ _ _ i r j)
  · refine (θ_run Cert.Reference2Ideal.defs _ _).mono (fun r h c => ⟨(h c).1.trans ?_, (h c).2⟩) (Cert.Reference2Ideal.Value.run (F := Ideal) m' g')
    obtain ⟨h0, h1, h2, h3, h4, h5, h6, h7, h8, h9, h10, h11, h12⟩ := hm c
    refine (Cert.Reference2Ideal.Out.res_eq m' c).trans ?_
    rw [h0, h1, h2, h3, h4, h5, h6, h7, h8, h9, h10, h11, h12]

/-- The last call of layer 0. Its programs run and keep their arguments. -/
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem preserves3 : Cert.preserves_Kernel3_Kernel3Ideal := trivial

/-- Both end with the reference's result. -/
theorem algebraic3 : Cert.algebraic_Kernel3Ideal_Reference3Ideal := by
  intro m g m' g' _ hm
  refine ⟨fun c => Cert.Reference3Ideal.Out.ffn (Cert.Reference3Ideal.Out.joined (Cert.Kernel3Ideal.Out.X m c) (Cert.Kernel3Ideal.Out.MA m c) (Cert.Kernel3Ideal.Out.MB m c) (Cert.Kernel3Ideal.Out.Q m c) (Cert.Kernel3Ideal.Out.WO m c)) (Cert.Kernel3Ideal.Out.Q m c) (Cert.Kernel3Ideal.Out.G m c) (Cert.Kernel3Ideal.Out.WI m c) (Cert.Kernel3Ideal.Out.WF m c), ?_, ?_⟩
  · refine (θ_run Cert.Kernel3Ideal.defs _ _).mono (fun r h c => ⟨(h c).1.trans ?_, (h c).2⟩) (Cert.Kernel3Ideal.Value.run_blocks m g)
    exact Cert.Kernel3Ideal.Out.final m c _ (fun i r j => Cert.Reference3Ideal.Out.row_at _ _ _ _ _ _ _ _ i r j)
  · refine (θ_run Cert.Reference3Ideal.defs _ _).mono (fun r h c => ⟨(h c).1.trans ?_, (h c).2⟩) (Cert.Reference3Ideal.Value.run (F := Ideal) m' g')
    obtain ⟨h0, h1, h2, h3, h4, h5, h6, h7⟩ := hm c
    refine (Cert.Reference3Ideal.Out.res_eq m' c).trans ?_
    rw [h0, h1, h2, h3, h4, h5, h6, h7]

/-- The in-projection of layer 1. Its programs run and keep their arguments. -/
theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem preserves4 : Cert.preserves_Kernel4_Kernel4Ideal := trivial

/-- Both end with the reference's result. -/
theorem algebraic4 : Cert.algebraic_Kernel4Ideal_Reference4Ideal := by
  intro m g m' g' _ hm
  refine ⟨fun c => Cert.Reference4Ideal.Out.result (Cert.Kernel4Ideal.Out.X m c) (Cert.Kernel4Ideal.Out.Q m c) (Cert.Kernel4Ideal.Out.G m c) (Cert.Kernel4Ideal.Out.W m c), ?_, ?_⟩
  · refine (θ_run Cert.Kernel4Ideal.defs _ _).mono (fun r h c => ⟨(h c).1.trans ?_, (h c).2⟩) (Cert.Kernel4Ideal.Value.run_blocks m g)
    exact Cert.Kernel4Ideal.Out.final m c
  · refine (θ_run Cert.Reference4Ideal.defs _ _).mono (fun r h c => ⟨(h c).1.trans ?_, (h c).2⟩) (Cert.Reference4Ideal.Value.run (F := Ideal) m' g')
    obtain ⟨h0, h1, h2, h3⟩ := hm c
    refine (Cert.Reference4Ideal.Out.res_eq m' c).trans ?_
    rw [h0, h1, h2, h3]

/-- The in-projection of layer 0. Its programs run and keep their arguments. -/
theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)
theorem preserves5 : Cert.preserves_Kernel5_Kernel5Ideal := trivial

/-- Both end with the reference's result. -/
theorem algebraic5 : Cert.algebraic_Kernel5Ideal_Reference5Ideal := by
  intro m g m' g' _ hm
  refine ⟨fun c => Cert.Reference5Ideal.Out.result (Cert.Kernel5Ideal.Out.X m c) (Cert.Kernel5Ideal.Out.Q m c) (Cert.Kernel5Ideal.Out.G m c) (Cert.Kernel5Ideal.Out.W m c), ?_, ?_⟩
  · refine (θ_run Cert.Kernel5Ideal.defs _ _).mono (fun r h c => ⟨(h c).1.trans ?_, (h c).2⟩) (Cert.Kernel5Ideal.Value.run_blocks m g)
    exact Cert.Kernel5Ideal.Out.final m c
  · refine (θ_run Cert.Reference5Ideal.defs _ _).mono (fun r h c => ⟨(h c).1.trans ?_, (h c).2⟩) (Cert.Reference5Ideal.Value.run (F := Ideal) m' g')
    obtain ⟨h0, h1, h2, h3⟩ := hm c
    refine (Cert.Reference5Ideal.Out.res_eq m' c).trans ?_
    rw [h0, h1, h2, h3]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
    frame_p, frame_pi, frame_pi_pre, frame_ri, frame_ri_pre, frame_p2, frame_pi2, frame_ri2, frame_p3, frame_pi3, frame_ri3, frame_p4, frame_pi4, frame_ri4, frame_p5, frame_pi5, frame_ri5, preserves, algebraic, preserves2, algebraic2, preserves3, algebraic3, preserves4, algebraic4, preserves5, algebraic5⟩

end Cert.Proof

end
